-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 8, 64]⟩ ⟨4, ![2, 2048, 8, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 2048, 8, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S2048x2048 : Shape := ⟨2, ![2048, 2048]⟩
abbrev S8x4 : Shape := ⟨2, ![8, 4]⟩
abbrev S1x128x8x64 : Shape := ⟨4, ![1, 128, 8, 64]⟩
abbrev S128x8x64 : Shape := ⟨3, ![128, 8, 64]⟩
abbrev S128x512 : Shape := ⟨2, ![128, 512]⟩
abbrev S_ : Shape := ⟨0, ![]⟩
abbrev S1x1 : Shape := ⟨2, ![1, 1]⟩
abbrev S1x128x512 : Shape := ⟨3, ![1, 128, 512]⟩
abbrev S128x64 : Shape := ⟨2, ![128, 64]⟩
abbrev S2048x64 : Shape := ⟨2, ![2048, 64]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x8x64, .f32⟩
  | .hbm, ⟨3, _⟩ => ⟨S2x128x8x64, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x8x64, .f32⟩
  | .local _ .vmem, ⟨4, _⟩ => ⟨S2x128x8x64, .f32⟩
  | .local _ .vmem, ⟨5, _⟩ => ⟨S2x128x512, .f32⟩
  | .local _ .vmem, ⟨6, _⟩ => ⟨S2048x2048, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let c32_i32 : BitVec 32 := 32#32
  let v93 : BitVec 32 := Scalar.addi v92 c32_i32
  let c16_i32_78 : BitVec 32 := 16#32
  let v94 : BitVec 32 := Scalar.remsi v93 c16_i32_78
  let c128_i32 : BitVec 32 := 128#32
  let v95 : BitVec 32 := Scalar.muli v94 c128_i32
  let v100 : Index := Scalar.indexCast v95
  let c0_82 : Index := 0#32
  ![v100.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let c32_i32 : BitVec 32 := 32#32
  let v93 : BitVec 32 := Scalar.addi v92 c32_i32
  let c16_i32_78 : BitVec 32 := 16#32
  let v94 : BitVec 32 := Scalar.remsi v93 c16_i32_78
  let c128_i32 : BitVec 32 := 128#32
  let v95 : BitVec 32 := Scalar.muli v94 c128_i32
  let v108 : Index := Scalar.indexCast v95
  let c512 : Index := 512#32
  ![v108.toNat, 512]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let c32_i32 : BitVec 32 := 32#32
  let v93 : BitVec 32 := Scalar.addi v92 c32_i32
  let c16_i32_78 : BitVec 32 := 16#32
  let v94 : BitVec 32 := Scalar.remsi v93 c16_i32_78
  let c128_i32 : BitVec 32 := 128#32
  let v95 : BitVec 32 := Scalar.muli v94 c128_i32
  let v116 : Index := Scalar.indexCast v95
  let c1024 : Index := 1024#32
  ![v116.toNat, 1024]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let c32_i32 : BitVec 32 := 32#32
  let v93 : BitVec 32 := Scalar.addi v92 c32_i32
  let c16_i32_78 : BitVec 32 := 16#32
  let v94 : BitVec 32 := Scalar.remsi v93 c16_i32_78
  let c128_i32 : BitVec 32 := 128#32
  let v95 : BitVec 32 := Scalar.muli v94 c128_i32
  let v124 : Index := Scalar.indexCast v95
  let c1536 : Index := 1536#32
  ![v124.toNat, 1536]
def k0_dev1 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_95 : BitVec 32 := 1#32
  let v129 : BitVec 32 := Scalar.muli v62 c1_i32_95
  let v130 : BitVec 32 := Scalar.addi c0_i32_96 v129
  v130.toNat
def k0_dev2 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_98 : BitVec 32 := 1#32
  let v131 : BitVec 32 := Scalar.muli v32 c1_i32_98
  let v132 : BitVec 32 := Scalar.addi c0_i32_99 v131
  v132.toNat
def k0_off5 (d0 : Dev nD) (c1_i32_101 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let v133 : BitVec 32 := Scalar.subi v92 c1_i32_101
  let c1_i32_102 : BitVec 32 := 1#32
  let v134 : BitVec 32 := Scalar.addi v133 c1_i32_102
  let c32_i32_103 : BitVec 32 := 32#32
  let v135 : BitVec 32 := Scalar.addi v134 c32_i32_103
  let c16_i32_104 : BitVec 32 := 16#32
  let v136 : BitVec 32 := Scalar.remsi v135 c16_i32_104
  let c128_i32_105 : BitVec 32 := 128#32
  let v137 : BitVec 32 := Scalar.muli v136 c128_i32_105
  let c0_i32_407 : BitVec 32 := 0#32
  ![v137.toNat, 0]
def k0_dev3 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_405 : BitVec 32 := 1#32
  let v433 : BitVec 32 := Scalar.muli v32 c1_i32_405
  let v434 : BitVec 32 := Scalar.addi c0_i32_406 v433
  v434.toNat
def k0_off6 (d0 : Dev nD) (c1_i32_251 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let v283 : BitVec 32 := Scalar.addi v92 c1_i32_251
  let c1_i32_252 : BitVec 32 := 1#32
  let v284 : BitVec 32 := Scalar.subi v283 c1_i32_252
  let c32_i32_253 : BitVec 32 := 32#32
  let v285 : BitVec 32 := Scalar.addi v284 c32_i32_253
  let c16_i32_254 : BitVec 32 := 16#32
  let v286 : BitVec 32 := Scalar.remsi v285 c16_i32_254
  let c128_i32_255 : BitVec 32 := 128#32
  let v287 : BitVec 32 := Scalar.muli v286 c128_i32_255
  let c0_i32_415 : BitVec 32 := 0#32
  ![v287.toNat, 0]
def k0_dev4 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_413 : BitVec 32 := 1#32
  let v441 : BitVec 32 := Scalar.muli v62 c1_i32_413
  let v442 : BitVec 32 := Scalar.addi c0_i32_414 v441
  v442.toNat
def k0_off7 (d0 : Dev nD) (c1_i32_106 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let v138 : BitVec 32 := Scalar.subi v92 c1_i32_106
  let c1_i32_107 : BitVec 32 := 1#32
  let v139 : BitVec 32 := Scalar.addi v138 c1_i32_107
  let c32_i32_108 : BitVec 32 := 32#32
  let v140 : BitVec 32 := Scalar.addi v139 c32_i32_108
  let c16_i32_109 : BitVec 32 := 16#32
  let v141 : BitVec 32 := Scalar.remsi v140 c16_i32_109
  let c128_i32_110 : BitVec 32 := 128#32
  let v142 : BitVec 32 := Scalar.muli v141 c128_i32_110
  let c512_i32 : BitVec 32 := 512#32
  ![v142.toNat, 512]
def k0_dev5 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_421 : BitVec 32 := 1#32
  let v449 : BitVec 32 := Scalar.muli v32 c1_i32_421
  let v450 : BitVec 32 := Scalar.addi c0_i32_422 v449
  v450.toNat
def k0_off8 (d0 : Dev nD) (c1_i32_256 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let v288 : BitVec 32 := Scalar.addi v92 c1_i32_256
  let c1_i32_257 : BitVec 32 := 1#32
  let v289 : BitVec 32 := Scalar.subi v288 c1_i32_257
  let c32_i32_258 : BitVec 32 := 32#32
  let v290 : BitVec 32 := Scalar.addi v289 c32_i32_258
  let c16_i32_259 : BitVec 32 := 16#32
  let v291 : BitVec 32 := Scalar.remsi v290 c16_i32_259
  let c128_i32_260 : BitVec 32 := 128#32
  let v292 : BitVec 32 := Scalar.muli v291 c128_i32_260
  let c512_i32_430 : BitVec 32 := 512#32
  ![v292.toNat, 512]
def k0_dev6 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_428 : BitVec 32 := 1#32
  let v457 : BitVec 32 := Scalar.muli v62 c1_i32_428
  let v458 : BitVec 32 := Scalar.addi c0_i32_429 v457
  v458.toNat
def k0_off9 (d0 : Dev nD) (c1_i32_111 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let v143 : BitVec 32 := Scalar.subi v92 c1_i32_111
  let c1_i32_112 : BitVec 32 := 1#32
  let v144 : BitVec 32 := Scalar.addi v143 c1_i32_112
  let c32_i32_113 : BitVec 32 := 32#32
  let v145 : BitVec 32 := Scalar.addi v144 c32_i32_113
  let c16_i32_114 : BitVec 32 := 16#32
  let v146 : BitVec 32 := Scalar.remsi v145 c16_i32_114
  let c128_i32_115 : BitVec 32 := 128#32
  let v147 : BitVec 32 := Scalar.muli v146 c128_i32_115
  let c1024_i32 : BitVec 32 := 1024#32
  ![v147.toNat, 1024]
def k0_dev7 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_436 : BitVec 32 := 1#32
  let v465 : BitVec 32 := Scalar.muli v32 c1_i32_436
  let v466 : BitVec 32 := Scalar.addi c0_i32_437 v465
  v466.toNat
def k0_off10 (d0 : Dev nD) (c1_i32_261 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let v293 : BitVec 32 := Scalar.addi v92 c1_i32_261
  let c1_i32_262 : BitVec 32 := 1#32
  let v294 : BitVec 32 := Scalar.subi v293 c1_i32_262
  let c32_i32_263 : BitVec 32 := 32#32
  let v295 : BitVec 32 := Scalar.addi v294 c32_i32_263
  let c16_i32_264 : BitVec 32 := 16#32
  let v296 : BitVec 32 := Scalar.remsi v295 c16_i32_264
  let c128_i32_265 : BitVec 32 := 128#32
  let v297 : BitVec 32 := Scalar.muli v296 c128_i32_265
  let c1024_i32_445 : BitVec 32 := 1024#32
  ![v297.toNat, 1024]
def k0_dev8 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_443 : BitVec 32 := 1#32
  let v473 : BitVec 32 := Scalar.muli v62 c1_i32_443
  let v474 : BitVec 32 := Scalar.addi c0_i32_444 v473
  v474.toNat
def k0_off11 (d0 : Dev nD) (c1_i32_116 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let v148 : BitVec 32 := Scalar.subi v92 c1_i32_116
  let c1_i32_117 : BitVec 32 := 1#32
  let v149 : BitVec 32 := Scalar.addi v148 c1_i32_117
  let c32_i32_118 : BitVec 32 := 32#32
  let v150 : BitVec 32 := Scalar.addi v149 c32_i32_118
  let c16_i32_119 : BitVec 32 := 16#32
  let v151 : BitVec 32 := Scalar.remsi v150 c16_i32_119
  let c128_i32_120 : BitVec 32 := 128#32
  let v152 : BitVec 32 := Scalar.muli v151 c128_i32_120
  let c1536_i32 : BitVec 32 := 1536#32
  ![v152.toNat, 1536]
def k0_dev9 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_451 : BitVec 32 := 1#32
  let v481 : BitVec 32 := Scalar.muli v32 c1_i32_451
  let v482 : BitVec 32 := Scalar.addi c0_i32_452 v481
  v482.toNat
def k0_off12 (d0 : Dev nD) (c1_i32_266 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_76 : BitVec 32 := 14#32
  let v91 : BitVec 1 := Scalar.cmpi .eq v2 c14_i32_76
  let c11_i32_77 : BitVec 32 := 11#32
  let c13_i32_74 : BitVec 32 := 13#32
  let v89 : BitVec 1 := Scalar.cmpi .eq v2 c13_i32_74
  let c12_i32_75 : BitVec 32 := 12#32
  let c12_i32_72 : BitVec 32 := 12#32
  let v87 : BitVec 1 := Scalar.cmpi .eq v2 c12_i32_72
  let c3_i32_73 : BitVec 32 := 3#32
  let c11_i32_70 : BitVec 32 := 11#32
  let v85 : BitVec 1 := Scalar.cmpi .eq v2 c11_i32_70
  let c5_i32_71 : BitVec 32 := 5#32
  let c10_i32_68 : BitVec 32 := 10#32
  let v83 : BitVec 1 := Scalar.cmpi .eq v2 c10_i32_68
  let c10_i32_69 : BitVec 32 := 10#32
  let c9_i32_66 : BitVec 32 := 9#32
  let v81 : BitVec 1 := Scalar.cmpi .eq v2 c9_i32_66
  let c13_i32_67 : BitVec 32 := 13#32
  let c8_i32_64 : BitVec 32 := 8#32
  let v79 : BitVec 1 := Scalar.cmpi .eq v2 c8_i32_64
  let c2_i32_65 : BitVec 32 := 2#32
  let c7_i32_62 : BitVec 32 := 7#32
  let v77 : BitVec 1 := Scalar.cmpi .eq v2 c7_i32_62
  let c6_i32_63 : BitVec 32 := 6#32
  let c6_i32_60 : BitVec 32 := 6#32
  let v75 : BitVec 1 := Scalar.cmpi .eq v2 c6_i32_60
  let c9_i32_61 : BitVec 32 := 9#32
  let c5_i32_58 : BitVec 32 := 5#32
  let v73 : BitVec 1 := Scalar.cmpi .eq v2 c5_i32_58
  let c14_i32_59 : BitVec 32 := 14#32
  let c4_i32_56 : BitVec 32 := 4#32
  let v71 : BitVec 1 := Scalar.cmpi .eq v2 c4_i32_56
  let c1_i32_57 : BitVec 32 := 1#32
  let c3_i32_54 : BitVec 32 := 3#32
  let v69 : BitVec 1 := Scalar.cmpi .eq v2 c3_i32_54
  let c7_i32_55 : BitVec 32 := 7#32
  let c2_i32_52 : BitVec 32 := 2#32
  let v67 : BitVec 1 := Scalar.cmpi .eq v2 c2_i32_52
  let c8_i32_53 : BitVec 32 := 8#32
  let c1_i32_50 : BitVec 32 := 1#32
  let v65 : BitVec 1 := Scalar.cmpi .eq v2 c1_i32_50
  let c15_i32_51 : BitVec 32 := 15#32
  let c0_i32_47 : BitVec 32 := 0#32
  let v63 : BitVec 1 := Scalar.cmpi .eq v2 c0_i32_47
  let c0_i32_48 : BitVec 32 := 0#32
  let c4_i32_49 : BitVec 32 := 4#32
  let v64 : BitVec 32 := Scalar.select v63 c0_i32_48 c4_i32_49
  let v66 : BitVec 32 := Scalar.select v65 c15_i32_51 v64
  let v68 : BitVec 32 := Scalar.select v67 c8_i32_53 v66
  let v70 : BitVec 32 := Scalar.select v69 c7_i32_55 v68
  let v72 : BitVec 32 := Scalar.select v71 c1_i32_57 v70
  let v74 : BitVec 32 := Scalar.select v73 c14_i32_59 v72
  let v76 : BitVec 32 := Scalar.select v75 c9_i32_61 v74
  let v78 : BitVec 32 := Scalar.select v77 c6_i32_63 v76
  let v80 : BitVec 32 := Scalar.select v79 c2_i32_65 v78
  let v82 : BitVec 32 := Scalar.select v81 c13_i32_67 v80
  let v84 : BitVec 32 := Scalar.select v83 c10_i32_69 v82
  let v86 : BitVec 32 := Scalar.select v85 c5_i32_71 v84
  let v88 : BitVec 32 := Scalar.select v87 c3_i32_73 v86
  let v90 : BitVec 32 := Scalar.select v89 c12_i32_75 v88
  let v92 : BitVec 32 := Scalar.select v91 c11_i32_77 v90
  let v298 : BitVec 32 := Scalar.addi v92 c1_i32_266
  let c1_i32_267 : BitVec 32 := 1#32
  let v299 : BitVec 32 := Scalar.subi v298 c1_i32_267
  let c32_i32_268 : BitVec 32 := 32#32
  let v300 : BitVec 32 := Scalar.addi v299 c32_i32_268
  let c16_i32_269 : BitVec 32 := 16#32
  let v301 : BitVec 32 := Scalar.remsi v300 c16_i32_269
  let c128_i32_270 : BitVec 32 := 128#32
  let v302 : BitVec 32 := Scalar.muli v301 c128_i32_270
  let c1536_i32_460 : BitVec 32 := 1536#32
  ![v302.toNat, 1536]
def k0_dev10 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_458 : BitVec 32 := 1#32
  let v489 : BitVec 32 := Scalar.muli v62 c1_i32_458
  let v490 : BitVec 32 := Scalar.addi c0_i32_459 v489
  v490.toNat
def k0_dev11 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_487 : BitVec 32 := 1#32
  let v519 : BitVec 32 := Scalar.muli v32 c1_i32_487
  let v520 : BitVec 32 := Scalar.addi c0_i32_488 v519
  v520.toNat
def k0_dev12 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_503 : BitVec 32 := 1#32
  let v533 : BitVec 32 := Scalar.muli v62 c1_i32_503
  let v534 : BitVec 32 := Scalar.addi c0_i32_504 v533
  v534.toNat
def k0_dev13 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_519 : BitVec 32 := 1#32
  let v547 : BitVec 32 := Scalar.muli v32 c1_i32_519
  let v548 : BitVec 32 := Scalar.addi c0_i32_520 v547
  v548.toNat
def k0_dev14 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_535 : BitVec 32 := 1#32
  let v561 : BitVec 32 := Scalar.muli v62 c1_i32_535
  let v562 : BitVec 32 := Scalar.addi c0_i32_536 v561
  v562.toNat
def k0_dev15 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_551 : BitVec 32 := 1#32
  let v575 : BitVec 32 := Scalar.muli v32 c1_i32_551
  let v576 : BitVec 32 := Scalar.addi c0_i32_552 v575
  v576.toNat
def k0_dev16 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_567 : BitVec 32 := 1#32
  let v589 : BitVec 32 := Scalar.muli v62 c1_i32_567
  let v590 : BitVec 32 := Scalar.addi c0_i32_568 v589
  v590.toNat
def k0_dev17 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_583 : BitVec 32 := 1#32
  let v603 : BitVec 32 := Scalar.muli v32 c1_i32_583
  let v604 : BitVec 32 := Scalar.addi c0_i32_584 v603
  v604.toNat
def k0_dev18 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_599 : BitVec 32 := 1#32
  let v617 : BitVec 32 := Scalar.muli v62 c1_i32_599
  let v618 : BitVec 32 := Scalar.addi c0_i32_600 v617
  v618.toNat
def k0_dev19 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_615 : BitVec 32 := 1#32
  let v631 : BitVec 32 := Scalar.muli v32 c1_i32_615
  let v632 : BitVec 32 := Scalar.addi c0_i32_616 v631
  v632.toNat
def k0_dev20 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_631 : BitVec 32 := 1#32
  let v645 : BitVec 32 := Scalar.muli v62 c1_i32_631
  let v646 : BitVec 32 := Scalar.addi c0_i32_632 v645
  v646.toNat
def k0_dev21 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_647 : BitVec 32 := 1#32
  let v659 : BitVec 32 := Scalar.muli v32 c1_i32_647
  let v660 : BitVec 32 := Scalar.addi c0_i32_648 v659
  v660.toNat
def k0_dev22 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_663 : BitVec 32 := 1#32
  let v673 : BitVec 32 := Scalar.muli v62 c1_i32_663
  let v674 : BitVec 32 := Scalar.addi c0_i32_664 v673
  v674.toNat
def k0_dev23 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_679 : BitVec 32 := 1#32
  let v687 : BitVec 32 := Scalar.muli v32 c1_i32_679
  let v688 : BitVec 32 := Scalar.addi c0_i32_680 v687
  v688.toNat
def k0_dev24 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_695 : BitVec 32 := 1#32
  let v701 : BitVec 32 := Scalar.muli v62 c1_i32_695
  let v702 : BitVec 32 := Scalar.addi c0_i32_696 v701
  v702.toNat
def k0_dev25 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_711 : BitVec 32 := 1#32
  let v715 : BitVec 32 := Scalar.muli v32 c1_i32_711
  let v716 : BitVec 32 := Scalar.addi c0_i32_712 v715
  v716.toNat
def k0_dev26 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_727 : BitVec 32 := 1#32
  let v729 : BitVec 32 := Scalar.muli v62 c1_i32_727
  let v730 : BitVec 32 := Scalar.addi c0_i32_728 v729
  v730.toNat
def k0_dev27 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_743 : BitVec 32 := 1#32
  let v743 : BitVec 32 := Scalar.muli v32 c1_i32_743
  let v744 : BitVec 32 := Scalar.addi c0_i32_744 v743
  v744.toNat
def k0_dev28 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_759 : BitVec 32 := 1#32
  let v757 : BitVec 32 := Scalar.muli v62 c1_i32_759
  let v758 : BitVec 32 := Scalar.addi c0_i32_760 v757
  v758.toNat
def k0_dev29 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_775 : BitVec 32 := 1#32
  let v771 : BitVec 32 := Scalar.muli v32 c1_i32_775
  let v772 : BitVec 32 := Scalar.addi c0_i32_776 v771
  v772.toNat
def k0_dev30 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_791 : BitVec 32 := 1#32
  let v785 : BitVec 32 := Scalar.muli v62 c1_i32_791
  let v786 : BitVec 32 := Scalar.addi c0_i32_792 v785
  v786.toNat
def k0_dev31 (d0 : Dev nD) : Nat :=
  let c0_i32_808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_807 : BitVec 32 := 1#32
  let v799 : BitVec 32 := Scalar.muli v32 c1_i32_807
  let v800 : BitVec 32 := Scalar.addi c0_i32_808 v799
  v800.toNat
def k0_dev32 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_823 : BitVec 32 := 1#32
  let v813 : BitVec 32 := Scalar.muli v62 c1_i32_823
  let v814 : BitVec 32 := Scalar.addi c0_i32_824 v813
  v814.toNat
def k0_dev33 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_839 : BitVec 32 := 1#32
  let v827 : BitVec 32 := Scalar.muli v32 c1_i32_839
  let v828 : BitVec 32 := Scalar.addi c0_i32_840 v827
  v828.toNat
def k0_dev34 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_855 : BitVec 32 := 1#32
  let v841 : BitVec 32 := Scalar.muli v62 c1_i32_855
  let v842 : BitVec 32 := Scalar.addi c0_i32_856 v841
  v842.toNat
def k0_dev35 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_871 : BitVec 32 := 1#32
  let v855 : BitVec 32 := Scalar.muli v32 c1_i32_871
  let v856 : BitVec 32 := Scalar.addi c0_i32_872 v855
  v856.toNat
def k0_dev36 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_887 : BitVec 32 := 1#32
  let v869 : BitVec 32 := Scalar.muli v62 c1_i32_887
  let v870 : BitVec 32 := Scalar.addi c0_i32_888 v869
  v870.toNat
def k0_dev37 (d0 : Dev nD) : Nat :=
  let c0_i32_904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_903 : BitVec 32 := 1#32
  let v883 : BitVec 32 := Scalar.muli v32 c1_i32_903
  let v884 : BitVec 32 := Scalar.addi c0_i32_904 v883
  v884.toNat
def k0_dev38 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_919 : BitVec 32 := 1#32
  let v897 : BitVec 32 := Scalar.muli v62 c1_i32_919
  let v898 : BitVec 32 := Scalar.addi c0_i32_920 v897
  v898.toNat
def k0_dev39 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_935 : BitVec 32 := 1#32
  let v911 : BitVec 32 := Scalar.muli v32 c1_i32_935
  let v912 : BitVec 32 := Scalar.addi c0_i32_936 v911
  v912.toNat
def k0_dev40 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_951 : BitVec 32 := 1#32
  let v925 : BitVec 32 := Scalar.muli v62 c1_i32_951
  let v926 : BitVec 32 := Scalar.addi c0_i32_952 v925
  v926.toNat
def k0_dev41 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_967 : BitVec 32 := 1#32
  let v939 : BitVec 32 := Scalar.muli v32 c1_i32_967
  let v940 : BitVec 32 := Scalar.addi c0_i32_968 v939
  v940.toNat
def k0_dev42 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_983 : BitVec 32 := 1#32
  let v953 : BitVec 32 := Scalar.muli v62 c1_i32_983
  let v954 : BitVec 32 := Scalar.addi c0_i32_984 v953
  v954.toNat
def k0_dev43 (d0 : Dev nD) : Nat :=
  let c0_i32_1000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_999 : BitVec 32 := 1#32
  let v967 : BitVec 32 := Scalar.muli v32 c1_i32_999
  let v968 : BitVec 32 := Scalar.addi c0_i32_1000 v967
  v968.toNat
def k0_dev44 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1015 : BitVec 32 := 1#32
  let v981 : BitVec 32 := Scalar.muli v62 c1_i32_1015
  let v982 : BitVec 32 := Scalar.addi c0_i32_1016 v981
  v982.toNat
def k0_dev45 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1031 : BitVec 32 := 1#32
  let v995 : BitVec 32 := Scalar.muli v32 c1_i32_1031
  let v996 : BitVec 32 := Scalar.addi c0_i32_1032 v995
  v996.toNat
def k0_dev46 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1047 : BitVec 32 := 1#32
  let v1009 : BitVec 32 := Scalar.muli v62 c1_i32_1047
  let v1010 : BitVec 32 := Scalar.addi c0_i32_1048 v1009
  v1010.toNat
def k0_dev47 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1063 : BitVec 32 := 1#32
  let v1023 : BitVec 32 := Scalar.muli v32 c1_i32_1063
  let v1024 : BitVec 32 := Scalar.addi c0_i32_1064 v1023
  v1024.toNat
def k0_dev48 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1079 : BitVec 32 := 1#32
  let v1037 : BitVec 32 := Scalar.muli v62 c1_i32_1079
  let v1038 : BitVec 32 := Scalar.addi c0_i32_1080 v1037
  v1038.toNat
def k0_dev49 (d0 : Dev nD) : Nat :=
  let c0_i32_1096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1095 : BitVec 32 := 1#32
  let v1051 : BitVec 32 := Scalar.muli v32 c1_i32_1095
  let v1052 : BitVec 32 := Scalar.addi c0_i32_1096 v1051
  v1052.toNat
def k0_dev50 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1111 : BitVec 32 := 1#32
  let v1065 : BitVec 32 := Scalar.muli v62 c1_i32_1111
  let v1066 : BitVec 32 := Scalar.addi c0_i32_1112 v1065
  v1066.toNat
def k0_dev51 (d0 : Dev nD) : Nat :=
  let c0_i32_1128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1127 : BitVec 32 := 1#32
  let v1079 : BitVec 32 := Scalar.muli v32 c1_i32_1127
  let v1080 : BitVec 32 := Scalar.addi c0_i32_1128 v1079
  v1080.toNat
def k0_dev52 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1143 : BitVec 32 := 1#32
  let v1093 : BitVec 32 := Scalar.muli v62 c1_i32_1143
  let v1094 : BitVec 32 := Scalar.addi c0_i32_1144 v1093
  v1094.toNat
def k0_dev53 (d0 : Dev nD) : Nat :=
  let c0_i32_1160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1159 : BitVec 32 := 1#32
  let v1107 : BitVec 32 := Scalar.muli v32 c1_i32_1159
  let v1108 : BitVec 32 := Scalar.addi c0_i32_1160 v1107
  v1108.toNat
def k0_dev54 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1175 : BitVec 32 := 1#32
  let v1121 : BitVec 32 := Scalar.muli v62 c1_i32_1175
  let v1122 : BitVec 32 := Scalar.addi c0_i32_1176 v1121
  v1122.toNat
def k0_dev55 (d0 : Dev nD) : Nat :=
  let c0_i32_1192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1191 : BitVec 32 := 1#32
  let v1135 : BitVec 32 := Scalar.muli v32 c1_i32_1191
  let v1136 : BitVec 32 := Scalar.addi c0_i32_1192 v1135
  v1136.toNat
def k0_dev56 (d0 : Dev nD) : Nat :=
  let c0_i32_1208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1207 : BitVec 32 := 1#32
  let v1149 : BitVec 32 := Scalar.muli v62 c1_i32_1207
  let v1150 : BitVec 32 := Scalar.addi c0_i32_1208 v1149
  v1150.toNat
def k0_dev57 (d0 : Dev nD) : Nat :=
  let c0_i32_1224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1223 : BitVec 32 := 1#32
  let v1163 : BitVec 32 := Scalar.muli v32 c1_i32_1223
  let v1164 : BitVec 32 := Scalar.addi c0_i32_1224 v1163
  v1164.toNat
def k0_dev58 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1239 : BitVec 32 := 1#32
  let v1177 : BitVec 32 := Scalar.muli v62 c1_i32_1239
  let v1178 : BitVec 32 := Scalar.addi c0_i32_1240 v1177
  v1178.toNat
def k0_dev59 (d0 : Dev nD) : Nat :=
  let c0_i32_1256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1255 : BitVec 32 := 1#32
  let v1191 : BitVec 32 := Scalar.muli v32 c1_i32_1255
  let v1192 : BitVec 32 := Scalar.addi c0_i32_1256 v1191
  v1192.toNat
def k0_dev60 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_14 : BitVec 32 := 14#32
  let v31 : BitVec 1 := Scalar.cmpi .eq v2 c14_i32_14
  let c13_i32_15 : BitVec 32 := 13#32
  let c13_i32 : BitVec 32 := 13#32
  let v29 : BitVec 1 := Scalar.cmpi .eq v2 c13_i32
  let c9_i32_13 : BitVec 32 := 9#32
  let c12_i32_12 : BitVec 32 := 12#32
  let v27 : BitVec 1 := Scalar.cmpi .eq v2 c12_i32_12
  let c15_i32 : BitVec 32 := 15#32
  let c11_i32_10 : BitVec 32 := 11#32
  let v25 : BitVec 1 := Scalar.cmpi .eq v2 c11_i32_10
  let c7_i32_11 : BitVec 32 := 7#32
  let c10_i32_9 : BitVec 32 := 10#32
  let v23 : BitVec 1 := Scalar.cmpi .eq v2 c10_i32_9
  let c14_i32 : BitVec 32 := 14#32
  let c9_i32 : BitVec 32 := 9#32
  let v21 : BitVec 1 := Scalar.cmpi .eq v2 c9_i32
  let c5_i32_8 : BitVec 32 := 5#32
  let c8_i32_7 : BitVec 32 := 8#32
  let v19 : BitVec 1 := Scalar.cmpi .eq v2 c8_i32_7
  let c12_i32 : BitVec 32 := 12#32
  let c7_i32 : BitVec 32 := 7#32
  let v17 : BitVec 1 := Scalar.cmpi .eq v2 c7_i32
  let c3_i32_6 : BitVec 32 := 3#32
  let c6_i32_5 : BitVec 32 := 6#32
  let v15 : BitVec 1 := Scalar.cmpi .eq v2 c6_i32_5
  let c10_i32 : BitVec 32 := 10#32
  let c5_i32 : BitVec 32 := 5#32
  let v13 : BitVec 1 := Scalar.cmpi .eq v2 c5_i32
  let c1_i32_4 : BitVec 32 := 1#32
  let c4_i32_3 : BitVec 32 := 4#32
  let v11 : BitVec 1 := Scalar.cmpi .eq v2 c4_i32_3
  let c8_i32 : BitVec 32 := 8#32
  let c3_i32 : BitVec 32 := 3#32
  let v9 : BitVec 1 := Scalar.cmpi .eq v2 c3_i32
  let c2_i32_2 : BitVec 32 := 2#32
  let c2_i32 : BitVec 32 := 2#32
  let v7 : BitVec 1 := Scalar.cmpi .eq v2 c2_i32
  let c6_i32 : BitVec 32 := 6#32
  let c1_i32_0 : BitVec 32 := 1#32
  let v5 : BitVec 1 := Scalar.cmpi .eq v2 c1_i32_0
  let c0_i32_1 : BitVec 32 := 0#32
  let c0_i32 : BitVec 32 := 0#32
  let v3 : BitVec 1 := Scalar.cmpi .eq v2 c0_i32
  let c4_i32 : BitVec 32 := 4#32
  let c11_i32 : BitVec 32 := 11#32
  let v4 : BitVec 32 := Scalar.select v3 c4_i32 c11_i32
  let v6 : BitVec 32 := Scalar.select v5 c0_i32_1 v4
  let v8 : BitVec 32 := Scalar.select v7 c6_i32 v6
  let v10 : BitVec 32 := Scalar.select v9 c2_i32_2 v8
  let v12 : BitVec 32 := Scalar.select v11 c8_i32 v10
  let v14 : BitVec 32 := Scalar.select v13 c1_i32_4 v12
  let v16 : BitVec 32 := Scalar.select v15 c10_i32 v14
  let v18 : BitVec 32 := Scalar.select v17 c3_i32_6 v16
  let v20 : BitVec 32 := Scalar.select v19 c12_i32 v18
  let v22 : BitVec 32 := Scalar.select v21 c5_i32_8 v20
  let v24 : BitVec 32 := Scalar.select v23 c14_i32 v22
  let v26 : BitVec 32 := Scalar.select v25 c7_i32_11 v24
  let v28 : BitVec 32 := Scalar.select v27 c15_i32 v26
  let v30 : BitVec 32 := Scalar.select v29 c9_i32_13 v28
  let v32 : BitVec 32 := Scalar.select v31 c13_i32_15 v30
  let c1_i32_1279 : BitVec 32 := 1#32
  let v1211 : BitVec 32 := Scalar.muli v32 c1_i32_1279
  let v1212 : BitVec 32 := Scalar.addi c0_i32_1280 v1211
  v1212.toNat
def k0_dev61 (d0 : Dev nD) : Nat :=
  let c0_i32_1312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1311 : BitVec 32 := 1#32
  let v1237 : BitVec 32 := Scalar.muli v62 c1_i32_1311
  let v1238 : BitVec 32 := Scalar.addi c0_i32_1312 v1237
  v1238.toNat
def k0_dev62 (d0 : Dev nD) : Nat :=
  let c0_i32_1336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_45 : BitVec 32 := 14#32
  let v61 : BitVec 1 := Scalar.cmpi .eq v2 c14_i32_45
  let c10_i32_46 : BitVec 32 := 10#32
  let c13_i32_43 : BitVec 32 := 13#32
  let v59 : BitVec 1 := Scalar.cmpi .eq v2 c13_i32_43
  let c14_i32_44 : BitVec 32 := 14#32
  let c12_i32_41 : BitVec 32 := 12#32
  let v57 : BitVec 1 := Scalar.cmpi .eq v2 c12_i32_41
  let c8_i32_42 : BitVec 32 := 8#32
  let c11_i32_39 : BitVec 32 := 11#32
  let v55 : BitVec 1 := Scalar.cmpi .eq v2 c11_i32_39
  let c15_i32_40 : BitVec 32 := 15#32
  let c10_i32_37 : BitVec 32 := 10#32
  let v53 : BitVec 1 := Scalar.cmpi .eq v2 c10_i32_37
  let c6_i32_38 : BitVec 32 := 6#32
  let c9_i32_35 : BitVec 32 := 9#32
  let v51 : BitVec 1 := Scalar.cmpi .eq v2 c9_i32_35
  let c13_i32_36 : BitVec 32 := 13#32
  let c8_i32_33 : BitVec 32 := 8#32
  let v49 : BitVec 1 := Scalar.cmpi .eq v2 c8_i32_33
  let c4_i32_34 : BitVec 32 := 4#32
  let c7_i32_31 : BitVec 32 := 7#32
  let v47 : BitVec 1 := Scalar.cmpi .eq v2 c7_i32_31
  let c11_i32_32 : BitVec 32 := 11#32
  let c6_i32_29 : BitVec 32 := 6#32
  let v45 : BitVec 1 := Scalar.cmpi .eq v2 c6_i32_29
  let c2_i32_30 : BitVec 32 := 2#32
  let c5_i32_27 : BitVec 32 := 5#32
  let v43 : BitVec 1 := Scalar.cmpi .eq v2 c5_i32_27
  let c9_i32_28 : BitVec 32 := 9#32
  let c4_i32_25 : BitVec 32 := 4#32
  let v41 : BitVec 1 := Scalar.cmpi .eq v2 c4_i32_25
  let c0_i32_26 : BitVec 32 := 0#32
  let c3_i32_23 : BitVec 32 := 3#32
  let v39 : BitVec 1 := Scalar.cmpi .eq v2 c3_i32_23
  let c7_i32_24 : BitVec 32 := 7#32
  let c2_i32_21 : BitVec 32 := 2#32
  let v37 : BitVec 1 := Scalar.cmpi .eq v2 c2_i32_21
  let c3_i32_22 : BitVec 32 := 3#32
  let c1_i32_19 : BitVec 32 := 1#32
  let v35 : BitVec 1 := Scalar.cmpi .eq v2 c1_i32_19
  let c5_i32_20 : BitVec 32 := 5#32
  let c0_i32_16 : BitVec 32 := 0#32
  let v33 : BitVec 1 := Scalar.cmpi .eq v2 c0_i32_16
  let c1_i32_17 : BitVec 32 := 1#32
  let c12_i32_18 : BitVec 32 := 12#32
  let v34 : BitVec 32 := Scalar.select v33 c1_i32_17 c12_i32_18
  let v36 : BitVec 32 := Scalar.select v35 c5_i32_20 v34
  let v38 : BitVec 32 := Scalar.select v37 c3_i32_22 v36
  let v40 : BitVec 32 := Scalar.select v39 c7_i32_24 v38
  let v42 : BitVec 32 := Scalar.select v41 c0_i32_26 v40
  let v44 : BitVec 32 := Scalar.select v43 c9_i32_28 v42
  let v46 : BitVec 32 := Scalar.select v45 c2_i32_30 v44
  let v48 : BitVec 32 := Scalar.select v47 c11_i32_32 v46
  let v50 : BitVec 32 := Scalar.select v49 c4_i32_34 v48
  let v52 : BitVec 32 := Scalar.select v51 c13_i32_36 v50
  let v54 : BitVec 32 := Scalar.select v53 c6_i32_38 v52
  let v56 : BitVec 32 := Scalar.select v55 c15_i32_40 v54
  let v58 : BitVec 32 := Scalar.select v57 c8_i32_42 v56
  let v60 : BitVec 32 := Scalar.select v59 c14_i32_44 v58
  let v62 : BitVec 32 := Scalar.select v61 c10_i32_46 v60
  let c1_i32_1335 : BitVec 32 := 1#32
  let v1257 : BitVec 32 := Scalar.muli v62 c1_i32_1335
  let v1258 : BitVec 32 := Scalar.addi c0_i32_1336 v1257
  v1258.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x512 : Shape := ⟨2, ![512, 512]⟩
abbrev S2x2048x8x64 : Shape := ⟨4, ![2, 2048, 8, 64]⟩
abbrev S_ : Shape := ⟨0, ![]⟩
abbrev S2x8x2048x1 : Shape := ⟨4, ![2, 8, 2048, 1]⟩
abbrev S2x1024x8x64 : Shape := ⟨4, ![2, 1024, 8, 64]⟩
abbrev S2x8x2048x1024 : Shape := ⟨4, ![2, 8, 2048, 1024]⟩
abbrev S2x8x2048 : Shape := ⟨3, ![2, 8, 2048]⟩
abbrev S2x2048x8x1 : Shape := ⟨4, ![2, 2048, 8, 1]⟩
abbrev S2x8x64x2048 : Shape := ⟨4, ![2, 8, 64, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x512, .f32⟩
  | .hbm, ⟨2, _⟩ => ⟨S2x2048x8x64, .f32⟩
  | .hbm, ⟨3, _⟩ => ⟨S2x2048x8x64, .f32⟩
  | .hbm, ⟨4, _⟩ => ⟨S512x512, .f32⟩
  | .hbm, ⟨5, _⟩ => ⟨S2x2048x512, .f32⟩
  | .hbm, ⟨6, _⟩ => ⟨S2x2048x8x64, .f32⟩
  | .hbm, ⟨7, _⟩ => ⟨S_, .f32⟩
  | .hbm, ⟨8, _⟩ => ⟨S2x2048x8x64, .f32⟩
  | .hbm, ⟨9, _⟩ => ⟨S_, .f32⟩
  | .hbm, ⟨10, _⟩ => ⟨S2x8x2048x1, .f32⟩
  | .hbm, ⟨11, _⟩ => ⟨S_, .f32⟩
  | .hbm, ⟨12, _⟩ => ⟨S2x8x2048x1, .f32⟩
  | .hbm, ⟨13, _⟩ => ⟨S2x1024x8x64, .f32⟩
  | .hbm, ⟨14, _⟩ => ⟨S2x1024x8x64, .f32⟩
  | .hbm, ⟨15, _⟩ => ⟨S2x8x2048x1024, .f32⟩
  | .hbm, ⟨16, _⟩ => ⟨S_, .f32⟩
  | .hbm, ⟨17, _⟩ => ⟨S2x8x2048x1024, .f32⟩
  | .hbm, ⟨18, _⟩ => ⟨S2x8x2048x1024, .f32⟩
  | .hbm, ⟨19, _⟩ => ⟨S_, .f32⟩
  | .hbm, ⟨20, _⟩ => ⟨S2x8x2048, .f32⟩
  | .hbm, ⟨21, _⟩ => ⟨S2x8x2048x1, .f32⟩
  | .hbm, ⟨22, _⟩ => ⟨S2x8x2048x1, .f32⟩
  | .hbm, ⟨23, _⟩ => ⟨S2x8x2048x1, .f32⟩
  | .hbm, ⟨24, _⟩ => ⟨S2x8x2048x1, .f32⟩
  | .hbm, ⟨25, _⟩ => ⟨S2x8x2048x1024, .f32⟩
  | .hbm, ⟨26, _⟩ => ⟨S2x8x2048x1024, .f32⟩
  | .hbm, ⟨27, _⟩ => ⟨S2x8x2048x1024, .f32⟩
  | .hbm, ⟨28, _⟩ => ⟨S2x8x2048x1, .f32⟩
  | .hbm, ⟨29, _⟩ => ⟨S_, .f32⟩
  | .hbm, ⟨30, _⟩ => ⟨S2x8x2048, .f32⟩
  | .hbm, ⟨31, _⟩ => ⟨S2x8x2048x1, .f32⟩
  | .hbm, ⟨32, _⟩ => ⟨S2x8x2048x1, .f32⟩
  | .hbm, ⟨33, _⟩ => ⟨S2x2048x8x1, .f32⟩
  | .hbm, ⟨34, _⟩ => ⟨S2x2048x8x64, .f32⟩
  | .hbm, ⟨35, _⟩ => ⟨S2x2048x8x64, .f32⟩
  | .hbm, ⟨36, _⟩ => ⟨S2x8x64x2048, .f32⟩
  | .hbm, ⟨37, _⟩ => ⟨S2x2048x8x64, .f32⟩
  | .hbm, ⟨38, _⟩ => ⟨S2x2048x8x64, .f32⟩
  | .hbm, ⟨39, _⟩ => ⟨S2x1024x8x64, .f32⟩
  | .hbm, ⟨40, _⟩ => ⟨S2x1024x8x64, .f32⟩
  | .hbm, ⟨41, _⟩ => ⟨S2x8x2048x1024, .f32⟩
  | .hbm, ⟨42, _⟩ => ⟨S_, .f32⟩
  | .hbm, ⟨43, _⟩ => ⟨S2x8x2048x1024, .f32⟩
  | .hbm, ⟨44, _⟩ => ⟨S2x8x2048x1024, .f32⟩
  | .hbm, ⟨45, _⟩ => ⟨S_, .f32⟩
  | .hbm, ⟨46, _⟩ => ⟨S2x8x2048, .f32⟩
  | .hbm, ⟨47, _⟩ => ⟨S2x8x2048x1, .f32⟩
  | .hbm, ⟨48, _⟩ => ⟨S2x8x2048x1, .f32⟩
  | .hbm, ⟨49, _⟩ => ⟨S2x8x2048x1, .f32⟩
  | .hbm, ⟨50, _⟩ => ⟨S2x8x2048x1, .f32⟩
  | .hbm, ⟨51, _⟩ => ⟨S2x8x2048x1024, .f32⟩
  | .hbm, ⟨52, _⟩ => ⟨S2x8x2048x1024, .f32⟩
  | .hbm, ⟨53, _⟩ => ⟨S2x8x2048x1024, .f32⟩
  | .hbm, ⟨54, _⟩ => ⟨S2x8x2048x1, .f32⟩
  | .hbm, ⟨55, _⟩ => ⟨S_, .f32⟩
  | .hbm, ⟨56, _⟩ => ⟨S2x8x2048, .f32⟩
  | .hbm, ⟨57, _⟩ => ⟨S2x8x2048x1, .f32⟩
  | .hbm, ⟨58, _⟩ => ⟨S2x8x2048x1, .f32⟩
  | .hbm, ⟨59, _⟩ => ⟨S2x2048x8x1, .f32⟩
  | .hbm, ⟨60, _⟩ => ⟨S2x2048x8x64, .f32⟩
  | .hbm, ⟨61, _⟩ => ⟨S2x2048x8x64, .f32⟩
  | .hbm, ⟨62, _⟩ => ⟨S2x8x64x2048, .f32⟩
  | .hbm, ⟨63, _⟩ => ⟨S2x2048x8x64, .f32⟩
  | .hbm, ⟨64, _⟩ => ⟨S2x2048x8x64, .f32⟩
  | .hbm, ⟨65, _⟩ => ⟨S2x2048x8x1, .f32⟩
  | .hbm, ⟨66, _⟩ => ⟨S2x2048x8x64, .f32⟩
  | .hbm, ⟨67, _⟩ => ⟨S2x2048x8x64, .f32⟩
  | .hbm, ⟨68, _⟩ => ⟨S2x2048x512, .f32⟩
  | .hbm, ⟨69, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Ideal.Ring.lean ====
/-
The ring of sixteen devices, the copies they exchange, and the pieces of the key/value buffer.

Each device keeps all keys and values in one 2048×2048 buffer: sixteen slots of 128 rows, one for each ring position, cut
into four quarters of 512 columns. A device's own block travels both ways around the ring. A copy is named by its
direction, its hop (counted from 0) and its quarter.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

/-- The device standing at a ring position. -/
def rg : Fin 16 → Dev nD := ![0, 4, 8, 12, 15, 11, 7, 3, 2, 6, 10, 14, 13, 9, 5, 1]
/-- The ring position of a device. -/
def rp : Dev nD → Fin 16 := ![0, 15, 8, 7, 1, 14, 9, 6, 2, 13, 10, 5, 3, 12, 11, 4]
/-- The neighbour a direction sends to: `true` the next device, `false` the one before. -/
def nb (d : Bool) (c : Dev nD) : Dev nD := rg (if d then rp c + 1 else rp c - 1)

theorem rg_rp (c : Dev nD) : rg (rp c) = c := by revert c; decide
theorem rp_rg (r : Fin 16) : rp (rg r) = r := by revert r; decide
theorem nb_nb (d : Bool) (c : Dev nD) : nb (!d) (nb d c) = c := by revert d c; decide
theorem nb_nb' (d : Bool) (c : Dev nD) : nb d (nb (!d) c) = c := by revert d c; decide

/-- Going around by a direction, with the opposite direction as inverse. -/
def around (d : Bool) : Dev nD ≃ Dev nD := ⟨nb d, nb (!d), nb_nb d, nb_nb' d⟩

/-! ## The copies -/

/-- A copy: direction, hop, quarter. -/
abbrev X : Type := Bool × Fin 8 × Fin 4
/-- The copies the kernel makes: at the last hop each direction carries half of the quarters. -/
abbrev act (x : X) : Bool := x.2.1.val < 7 || (if x.1 then x.2.2.val < 2 else 2 ≤ x.2.2.val)
/-- The copy of the next hop. -/
abbrev nx (x : X) : X := (x.1, x.2.1 + 1, x.2.2)
/-- The received copies that are sent on. -/
abbrev fwd (x : X) : Bool := x.2.1.val < 7 && act (nx x)

/-- The slot a copy's sender reads, the same slot it is written to at the receiver. -/
def srcSlot (c : Dev nD) (x : X) : Fin 16 := if x.1 then rp c - ⟨x.2.1.val, by omega⟩ else rp c + ⟨x.2.1.val, by omega⟩
/-- The slot a copy lands in, seen from its receiver. -/
def dstSlot (c : Dev nD) (x : X) : Fin 16 := if x.1 then rp c - 1 - ⟨x.2.1.val, by omega⟩ else rp c + 1 + ⟨x.2.1.val, by omega⟩

theorem dstSlot_nb (c : Dev nD) (x : X) : dstSlot (nb x.1 c) x = srcSlot c x := by revert c; revert x; decide +kernel
theorem srcSlot_nx (c : Dev nD) (x : X) (h : x.2.1.val < 7) : srcSlot c (nx x) = dstSlot c x := by
  revert c; revert h; revert x; decide +kernel
theorem srcSlot_zero (c : Dev nD) (x : X) (h : x.2.1 = 0) : srcSlot c x = rp c := by
  revert c; revert h; revert x; decide +kernel

/-! ## The pieces of the key/value buffer -/

abbrev kvM : Memref sig .tc .vmem S2048x2048 .bf16 := Memref.whole cc0_scratch0

/-- The offset of a slot's quarter. -/
def off (r : Fin 16) (q : Fin 4) : Fin 2 → ℕ := ![128 * r.val, 512 * q.val]
theorem off_inb (r : Fin 16) (q : Fin 4) : ∀ a, off r q a + S128x512.size a ≤ S2048x2048.size a := by revert r q; decide

abbrev pR (r : Fin 16) (q : Fin 4) : Rect S2048x2048 := Rect.unit (s := S2048x2048) (off r q) S128x512.size (off_inb r q)
/-- A slot's quarter as a buffer of its own. -/
abbrev pM (r : Fin 16) (q : Fin 4) : Memref sig .tc .vmem S128x512 .bf16 := kvM.slice (pR r q) (fun _ => rfl)

theorem mem_piece (r : Fin 16) (q : Fin 4) (i : S2048x2048.Idx) :
    i ∈ (pM r q).view.set ↔ (i 0).val / 128 = r.val ∧ (i 1).val / 512 = q.val := by
  rw [show (pM r q).view.set = (pR r q).set from View.set_slice_whole _ _, Rect.mem_set_unit, Fin.forall_fin_two]
  have e0 : off r q 0 = 128 * r.val := rfl
  have e1 : off r q 1 = 512 * q.val := rfl
  have s0 : S128x512.size 0 = 128 := rfl
  have s1 : S128x512.size 1 = 512 := rfl
  rw [e0, e1, s0, s1]
  omega

theorem piece_disjoint (t t' : Fin 16 × Fin 4) (h : t ≠ t') : Disjoint (pM t.1 t.2).view.set (pM t'.1 t'.2).view.set := by
  rw [Finset.disjoint_left]
  intro i hi hi'
  have h1 := (mem_piece _ _ i).mp hi
  have h2 := (mem_piece _ _ i).mp hi'
  exact h (Prod.ext (Fin.ext (h1.1.symm.trans h2.1)) (Fin.ext (h1.2.symm.trans h2.2)))

theorem piece_cover : Finset.univ.biUnion (β := S2048x2048.Idx) (fun t : Fin 16 × Fin 4 => (pM t.1 t.2).view.set) = Finset.univ := by
  ext i
  simp only [Finset.mem_biUnion, Finset.mem_univ, true_and, iff_true]
  have h0 : (i 0).val < 2048 := (i 0).isLt
  have h1 : (i 1).val < 2048 := (i 1).isLt
  exact ⟨(⟨(i 0).val / 128, by omega⟩, ⟨(i 1).val / 512, by omega⟩), (mem_piece _ _ i).mpr ⟨rfl, rfl⟩⟩

/-! ## The copies as the kernel writes them -/

/-- The offset a copy's line computes on device `c`. -/
def offX (c : Dev nD) (x : X) : Fin 2 → ℕ := match x.1, x.2.2 with
  | true, 0 => k0_off5 c (BitVec.ofNat 32 (1 + x.2.1.val))
  | true, 1 => k0_off7 c (BitVec.ofNat 32 (1 + x.2.1.val))
  | true, 2 => k0_off9 c (BitVec.ofNat 32 (1 + x.2.1.val))
  | true, 3 => k0_off11 c (BitVec.ofNat 32 (1 + x.2.1.val))
  | false, 0 => k0_off6 c (BitVec.ofNat 32 (1 + x.2.1.val))
  | false, 1 => k0_off8 c (BitVec.ofNat 32 (1 + x.2.1.val))
  | false, 2 => k0_off10 c (BitVec.ofNat 32 (1 + x.2.1.val))
  | false, 3 => k0_off12 c (BitVec.ofNat 32 (1 + x.2.1.val))

theorem offX_eq (c : Dev nD) (x : X) : offX c x = off (srcSlot c x) x.2.2 := by
  revert c; revert x; decide +kernel

theorem offX_inb (c : Dev nD) (x : X) : ∀ a, offX c x a + S128x512.size a ≤ S2048x2048.size a := by
  rw [offX_eq c x]; exact off_inb _ _

abbrev xR (c : Dev nD) (x : X) : Rect S2048x2048 := Rect.unit (s := S2048x2048) (offX c x) S128x512.size (offX_inb c x)
/-- A copy's source and landing place, as its line writes them. -/
abbrev xM (c : Dev nD) (x : X) : Memref sig .tc .vmem S128x512 .bf16 := kvM.slice (xR c x) (fun _ => rfl)

theorem xR_eq (c : Dev nD) (x : X) : xR c x = pR (srcSlot c x) x.2.2 := by
  unfold xR pR; congr 1; exact offX_eq c x
theorem pR_words (r : Fin 16) (q : Fin 4) : (pR r q).WholeWords (EltTy.packing .bf16) := by revert r q; decide +kernel
theorem xR_words (c : Dev nD) (x : X) : (xR c x).WholeWords (EltTy.packing .bf16) := by rw [xR_eq]; exact pR_words _ _
theorem xM_words (c : Dev nD) (x : X) : (xM c x).view.WordExact := (Memref.isWhole_whole cc0_scratch0).wordExact_slice rfl _ (xR_words c x)

/-- The device a copy's line computes on device `c`. -/
def devX (c : Dev nD) (d : Bool) : Dev nD := if d then ⟨k0_dev3 c, k0_dev3_lt c⟩ else ⟨k0_dev4 c, k0_dev4_lt c⟩
theorem devX_eq (c : Dev nD) (d : Bool) : devX c d = nb d c := by revert c d; decide +kernel
theorem dev1_eq (c : Dev nD) : (⟨k0_dev1 c, k0_dev1_lt c⟩ : Dev nD) = nb false c := by revert c; decide +kernel
theorem dev2_eq (c : Dev nD) : (⟨k0_dev2 c, k0_dev2_lt c⟩ : Dev nD) = nb true c := by revert c; decide +kernel

/-! ## The semaphores of the copies -/

theorem semInb (h : Fin 8) (q : Fin 4) : ∀ a, (![h.val, q.val] : Fin 2 → ℕ) a + S1x1.size a ≤ S8x4.size a := by revert h q; decide

/-- A copy's send semaphore and its receive semaphore. -/
def sendSem (x : X) : DmaSem sig :=
  ((SemArray.slice (match x.1 with | true => cc0_scratch1 | false => cc0_scratch3) (Rect.unit (s := S8x4) ![x.2.1.val, x.2.2.val] S1x1.size (semInb _ _))).squeeze S_ squeezes_S1x1_S_).sem
def recvSem (x : X) : DmaSem sig :=
  ((SemArray.slice (match x.1 with | true => cc0_scratch2 | false => cc0_scratch4) (Rect.unit (s := S8x4) ![x.2.1.val, x.2.2.val] S1x1.size (semInb _ _))).squeeze S_ squeezes_S1x1_S_).sem

/-- The barrier semaphore. -/
abbrev barS : Sem sig := (SemArray.scalar (sig.barrier 0 rfl) : Sems sig S_).sem

/-- The cells of the protocol on one device: the barrier, and a send cell (`false`) and a receive cell (`true`) per copy. -/
abbrev CK : Type := Option (Bool × X)
/-- The semaphores of the copies, all scratch of the kernel. -/
def osem (k : Bool × X) : SemLoc sig := .dma (if k.1 then recvSem k.2 else sendSem k.2)
def csem : CK → SemLoc sig
  | none => .reg barS
  | some k => osem k

/-- Which cell of the protocol a semaphore is. -/
def kind : SemLoc sig → Option CK
  | .reg s => if s = barS then some none else none
  | .dma s => if 6 ≤ s.val then
      some (some (decide ((s.val - 6) / 32 % 2 = 1), (decide ((s.val - 6) / 64 % 2 = 0), (Fin.ofNat 8 ((s.val - 6) % 32 / 4), Fin.ofNat 4 ((s.val - 6) % 4)))))
    else none

theorem kind_csem (k : CK) : kind (csem k) = some k := by revert k; decide +kernel
theorem csem_injective : Function.Injective csem := fun a b h => Option.some.inj (by rw [← kind_csem a, ← kind_csem b, h])

end Cert.KernelIdeal.Ring

end
-- ==== Proof.Ideal.Steps.lean ====
/-
The kernel's copies and waits as lists: the eight first sends, the receives each followed by its forward, and the waits for
the sends.
-/
module

public import proofs.«01_k».proof.Proof.Ideal.Ring

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-- Every copy, in the order the kernel receives them: by hop, by quarter, the two directions in turn. -/
def allX : List X :=
  [(true, 0, 0), (false, 0, 0), (true, 0, 1), (false, 0, 1), (true, 0, 2), (false, 0, 2), (true, 0, 3), (false, 0, 3),
   (true, 1, 0), (false, 1, 0), (true, 1, 1), (false, 1, 1), (true, 1, 2), (false, 1, 2), (true, 1, 3), (false, 1, 3),
   (true, 2, 0), (false, 2, 0), (true, 2, 1), (false, 2, 1), (true, 2, 2), (false, 2, 2), (true, 2, 3), (false, 2, 3),
   (true, 3, 0), (false, 3, 0), (true, 3, 1), (false, 3, 1), (true, 3, 2), (false, 3, 2), (true, 3, 3), (false, 3, 3),
   (true, 4, 0), (false, 4, 0), (true, 4, 1), (false, 4, 1), (true, 4, 2), (false, 4, 2), (true, 4, 3), (false, 4, 3),
   (true, 5, 0), (false, 5, 0), (true, 5, 1), (false, 5, 1), (true, 5, 2), (false, 5, 2), (true, 5, 3), (false, 5, 3),
   (true, 6, 0), (false, 6, 0), (true, 6, 1), (false, 6, 1), (true, 6, 2), (false, 6, 2), (true, 6, 3), (false, 6, 3),
   (true, 7, 0), (true, 7, 1), (false, 7, 2), (false, 7, 3)]

/-- The first sends. -/
def firstX : List X := [(true, 0, 0), (false, 0, 0), (true, 0, 1), (false, 0, 1), (true, 0, 2), (false, 0, 2), (true, 0, 3), (false, 0, 3)]

/-- The waits for the sends: one direction after the other. -/
def doneX : List X :=
  [(true, 0, 0), (true, 0, 1), (true, 0, 2), (true, 0, 3), (true, 1, 0), (true, 1, 1), (true, 1, 2), (true, 1, 3),
   (true, 2, 0), (true, 2, 1), (true, 2, 2), (true, 2, 3), (true, 3, 0), (true, 3, 1), (true, 3, 2), (true, 3, 3),
   (true, 4, 0), (true, 4, 1), (true, 4, 2), (true, 4, 3), (true, 5, 0), (true, 5, 1), (true, 5, 2), (true, 5, 3),
   (true, 6, 0), (true, 6, 1), (true, 6, 2), (true, 6, 3), (true, 7, 0), (true, 7, 1),
   (false, 0, 0), (false, 0, 1), (false, 0, 2), (false, 0, 3), (false, 1, 0), (false, 1, 1), (false, 1, 2), (false, 1, 3),
   (false, 2, 0), (false, 2, 1), (false, 2, 2), (false, 2, 3), (false, 3, 0), (false, 3, 1), (false, 3, 2), (false, 3, 3),
   (false, 4, 0), (false, 4, 1), (false, 4, 2), (false, 4, 3), (false, 5, 0), (false, 5, 1), (false, 5, 2), (false, 5, 3),
   (false, 6, 0), (false, 6, 1), (false, 6, 2), (false, 6, 3), (false, 7, 2), (false, 7, 3)]

theorem allX_nodup : allX.Nodup := by decide +kernel
theorem allX_mem (x : X) : x ∈ allX ↔ act x = true := by revert x; decide +kernel
theorem doneX_perm : doneX.Perm allX := by decide +kernel
theorem allX_split : allX = firstX ++ (allX.filter fwd).map nx := by decide +kernel
theorem allX_sorted : allX.Pairwise (fun x y => x.2.1.val ≤ y.2.1.val) := by decide +kernel
theorem firstX_zero : ∀ x ∈ firstX, x.2.1 = 0 := by decide +kernel

/-- One send. -/
def sendOp (c : Dev nD) (x : X) (p : Prog (TpuEff nD τ sig (Elt F) Λ₀ .tc) PUnit) : Prog (TpuEff nD τ sig (Elt F) Λ₀ .tc) PUnit :=
  .op (.enqueueDma (xM c x) (.remote (Dev.tc (devX c x.1)) (xM c x) (.dma (sendSem x))) (.dma (recvSem x)) (xM_words c x) (xM_words c x) ⟨⟨rfl, Or.inl rfl⟩, trivial⟩) fun _ => p
/-- The wait for a landing. -/
def recvOp (c : Dev nD) (x : X) (p : Prog (TpuEff nD τ sig (Elt F) Λ₀ .tc) PUnit) : Prog (TpuEff nD τ sig (Elt F) Λ₀ .tc) PUnit :=
  .op (.waitDma2 (recvSem x) (xM c x) (xM c x) (xM_words c x) (xM_words c x)) fun _ => p
/-- The wait for a send to be done with its source. -/
def doneOp (c : Dev nD) (x : X) (p : Prog (TpuEff nD τ sig (Elt F) Λ₀ .tc) PUnit) : Prog (TpuEff nD τ sig (Elt F) Λ₀ .tc) PUnit :=
  .op (.waitDma2 (sendSem x) (xM c x) (xM c x) (xM_words c x) (xM_words c x)) fun _ => p
/-- The wait for a landing and the send of what landed. -/
def passOp (c : Dev nD) (x : X) (p : Prog (TpuEff nD τ sig (Elt F) Λ₀ .tc) PUnit) : Prog (TpuEff nD τ sig (Elt F) Λ₀ .tc) PUnit :=
  recvOp c x (match fwd x with | true => sendOp c (nx x) p | false => p)

end Cert.KernelIdeal.Ring

end
-- ==== Proof.Ideal.Sched.lean ====
/-
What the devices owe each other: the cells of the protocol, the rounds of each cell, what each pays and hands over, and the
levels at which devices wait.

One round per cell. A barrier cell is paid by both neighbours; each hands over the slots of its own buffer that the copies
coming from this device land in. A receive cell is paid by the landing of its copy and hands over the landed piece; a send
cell is paid by the end of the read and hands back the share of the source that was lent.
-/
module

public import proofs.«01_k».proof.Proof.Ideal.Steps
public import proofs.«01_k».proof.Proof.Gen.KernelIdeal.Points
public import Idealize.ShloMosaic.Lib.Pipeline.BigSepL
public import Idealize.ShloMosaic.Lib.Pipeline.TalkSched
public import Idealize.ShloMosaic.Lib.Pointwise.Index

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def st₀ : MemSt nD τ sig (Elt F) := ⟨m, fun _ => 0, ρ⟩

abbrev kcell (ck : Dev nD × CK) : GSem nD τ sig := ((ck.1 : Thread nD τ), csem ck.2)
abbrev barCell (c : Dev nD) : GSem nD τ sig := kcell (c, none)
abbrev sendCell (c : Dev nD) (x : X) : GSem nD τ sig := kcell (c, some (false, x))
abbrev recvCell (c : Dev nD) (x : X) : GSem nD τ sig := kcell (c, some (true, x))

/-- The credit of one copy. -/
abbrev N : ℕ := (pM 0 0).view.dmaCredit
theorem N_pos : 0 < N := View.dmaCredit_pos _ (by decide)

/-! ## Contents -/

abbrev kM : Memref sig .tc .vmem S2x128x8x64 .f32 := Memref.whole cc0_stg3_0
abbrev vM : Memref sig .tc .vmem S2x128x8x64 .f32 := Memref.whole cc0_stg4_0

/-- The blocks of the arguments device `c` stages. -/
def xstg (c : Dev nD) : (cc0_stg0_0 : Ref sig .tc).ty.Contents (Elt F) := (win0_0.blk (0 : Fin 1)).view.read (Elt F) (m ((c : Thread nD τ).loc main_arg0))
def wqstg (c : Dev nD) : (cc0_stg1_0 : Ref sig .tc).ty.Contents (Elt F) := (win0_1.blk (0 : Fin 1)).view.read (Elt F) (m ((c : Thread nD τ).loc main_arg1))
def wostg (c : Dev nD) : (cc0_stg2_0 : Ref sig .tc).ty.Contents (Elt F) := (win0_2.blk (0 : Fin 1)).view.read (Elt F) (m ((c : Thread nD τ).loc main_arg4))
def kstg (c : Dev nD) : (cc0_stg3_0 : Ref sig .tc).ty.Contents (Elt F) := (win0_3.blk (0 : Fin 1)).view.read (Elt F) (m ((c : Thread nD τ).loc main_arg2))
def vstg (c : Dev nD) : (cc0_stg4_0 : Ref sig .tc).ty.Contents (Elt F) := (win0_4.blk (0 : Fin 1)).view.read (Elt F) (m ((c : Thread nD τ).loc main_arg3))

abbrev b0R : Rect S2x128x8x64 := Rect.unit (s := S2x128x8x64) ![0, 0, 0, 0] S1x128x8x64.size inb_S2x128x8x64_S1x128x8x64_0_0_0_0
abbrev b1R : Rect S2x128x8x64 := Rect.unit (s := S2x128x8x64) ![1, 0, 0, 0] S1x128x8x64.size inb_S2x128x8x64_S1x128x8x64_1_0_0_0

/-- The four quarters of a device's own slot: keys then values, batch 0 then batch 1. -/
def ownBlk (c : Dev nD) (q : Fin 4) : FVec F S128x512 .bf16 := match q with
  | 0 => k0_pay1 (kM.view.readAt (Elt F) b0R.toLoadRect (kstg m c))
  | 1 => k0_pay2 (vM.view.readAt (Elt F) b0R.toLoadRect (vstg m c))
  | 2 => k0_pay3 (kM.view.readAt (Elt F) b1R.toLoadRect (kstg m c))
  | 3 => k0_pay4 (vM.view.readAt (Elt F) b1R.toLoadRect (vstg m c))

/-- The buffer once every slot holds its device's block: the same on every device. -/
def kvAll : (cc0_scratch0 : Ref sig .tc).ty.Contents (Elt F) := fun i : S2048x2048.Idx =>
  ownBlk m (rg (Fin.ofNat 16 ((i 0).val / 128))) (Fin.ofNat 4 ((i 1).val / 512)) (ix2 (Fin.ofNat 128 ((i 0).val % 128)) (Fin.ofNat 512 ((i 1).val % 512)))

/-- A piece of device `c`'s buffer, held at a share. -/
def pcs (c : Dev nD) (r : Fin 16) (q : Fin 4) (sh : PosShare TreeShare) (f : (cc0_scratch0 : Ref sig .tc).ty.Contents (Elt F)) : sProp 𝕄 :=
  (pM r q).view.loc (c : Thread nD τ) ↦[(pM r q).view.set]{sh} f

instance pcs_storable (c : Dev nD) (r q sh f) : BI.Storable (upEmb : UEmb _ 𝕄) (pcs (F := F) c r q sh f) := by unfold pcs; infer_instance

/-- The share of its source a copy is lent. -/
def lent (x : X) : PosShare TreeShare :=
  if x.2.1 = 0 then (if x.1 then (fullShare : PosShare TreeShare).right.left else (fullShare : PosShare TreeShare).right.right) else (fullShare : PosShare TreeShare).right

/-! ## The schedule -/

/-- The place a copy sent by device `c` lands in. -/
def slotAt (c : Dev nD) (x : X) : sProp 𝕄 := iprop(∃ f, pcs (F := F) (nb x.1 c) (srcSlot c x) x.2.2 fullShare f)
/-- What the neighbour in direction `d` hands device `c` at the barrier. -/
def barPay (c : Dev nD) (d : Bool) : sProp 𝕄 := bigSepL (allX.filter fun x => x.1 = d) (slotAt (F := F) c)
def recvPay (c : Dev nD) (x : X) : sProp 𝕄 := pcs c (dstSlot c x) x.2.2 fullShare (kvAll m)
def sendPay (c : Dev nD) (x : X) : sProp 𝕄 := pcs c (srcSlot c x) x.2.2 (lent x) (kvAll m)

instance slotAt_storable (c : Dev nD) (x : X) : BI.Storable (upEmb : UEmb _ 𝕄) (slotAt (F := F) c x) := by unfold slotAt; infer_instance

theorem bigSepL_storable (l : List X) (Φ : X → sProp 𝕄) (h : ∀ x, BI.Storable (upEmb : UEmb _ 𝕄) (Φ x)) : BI.Storable (upEmb : UEmb _ 𝕄) (bigSepL l Φ) := by
  induction l with
  | nil => rw [bigSepL_nil]; show BI.Storable upEmb iprop(emp); infer_instance
  | cons x l ih => rw [bigSepL_cons']; have := h x; infer_instance

instance barPay_storable (c : Dev nD) (d : Bool) : BI.Storable (upEmb : UEmb _ 𝕄) (barPay (F := F) c d) := bigSepL_storable _ _ fun x => slotAt_storable c x

def ringRd : Rounds.Schedule (GSem nD τ sig) Bool 𝕄 where
  duties g r := if r = 0 ∧ g.1.2 = .tc then (match kind g.2 with
    | some none => Finset.univ
    | some (some k) => if act k.2 then {false} else ∅
    | none => ∅) else ∅
  unitless _ := False
  amount g _ _ := match kind g.2 with
    | some none => 1
    | _ => N
  payload g _ d := match kind g.2 with
    | some none => barPay g.1.1 d
    | some (some k) => if k.1 then recvPay m g.1.1 k.2 else sendPay m g.1.1 k.2
    | none => iprop(emp)
  amount_pos g _ _ _ := by
    split
    · exact Nat.one_pos
    · exact N_pos

instance ringRd_payload_storable (g : GSem nD τ sig) (r : ℕ) (d : Bool) : BI.Storable (upEmb : UEmb _ 𝕄) ((ringRd (F := F) m).payload g r d) := by
  show BI.Storable upEmb (match kind g.2 with
    | some none => barPay g.1.1 d
    | some (some k) => if k.1 then recvPay m g.1.1 k.2 else sendPay m g.1.1 k.2
    | none => iprop(emp))
  unfold recvPay sendPay
  (repeat' split) <;> infer_instance

section Sched
variable (c : Dev nD) (x : X)

theorem duties_bar : (ringRd (F := F) m).duties (barCell c) 0 = Finset.univ := by
  dsimp only [ringRd]; rw [if_pos ⟨rfl, rfl⟩, kind_csem]
theorem duties_xfer (b : Bool) : (ringRd (F := F) m).duties (kcell (c, some (b, x))) 0 = if act x then {false} else ∅ := by
  dsimp only [ringRd]; rw [if_pos ⟨rfl, rfl⟩, kind_csem]
theorem duties_act (b : Bool) (hx : act x = true) : (ringRd (F := F) m).duties (kcell (c, some (b, x))) 0 = {false} := by
  rw [duties_xfer, if_pos hx]
theorem duties_later (g : GSem nD τ sig) : ∀ r, 1 ≤ r → (ringRd (F := F) m).duties g r = ∅ :=
  fun r hr => by dsimp only [ringRd]; rw [if_neg fun h => by omega]
theorem duties_idle (b : Bool) (hx : ¬ act x = true) : ∀ r, 0 ≤ r → (ringRd (F := F) m).duties (kcell (c, some (b, x))) r = ∅ := fun r _ => by
  rcases Nat.eq_zero_or_pos r with rfl | hr
  · rw [duties_xfer, if_neg hx]
  · exact duties_later m _ r hr

theorem amount_bar (d : Bool) : (ringRd (F := F) m).amount (barCell c) 0 d = 1 := by dsimp only [ringRd]; rw [kind_csem]
theorem amount_xfer (b d : Bool) : (ringRd (F := F) m).amount (kcell (c, some (b, x))) 0 d = N := by dsimp only [ringRd]; rw [kind_csem]

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_xfer (b : Bool) (hx : act x = true) : (ringRd (F := F) m).expect (kcell (c, some (b, x))) 0 = N := by
  unfold Schedule.expect Schedule.amountOf; rw [duties_act m c x b hx, Finset.sum_singleton, amount_xfer]

theorem payload_bar (d : Bool) : (ringRd (F := F) m).payload (barCell c) 0 d = barPay c d := by dsimp only [ringRd]; rw [kind_csem]
theorem payload_send (d : Bool) : (ringRd (F := F) m).payload (sendCell c x) 0 d = sendPay m c x := by
  dsimp only [ringRd]; rw [kind_csem]; rfl
theorem payload_recv (d : Bool) : (ringRd (F := F) m).payload (recvCell c x) 0 d = recvPay m c x := by
  dsimp only [ringRd]; rw [kind_csem]; rfl

theorem rest_bar : bigSep ((ringRd (F := F) m).duties (barCell c) 0 \ ∅) (fun d => (ringRd (F := F) m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (hx : act x = true) : bigSep ((ringRd (F := F) m).duties (sendCell c x) 0 \ ∅) (fun d => (ringRd (F := F) m).payload (sendCell c x) 0 d) = sendPay m c x := by
  rw [Finset.sdiff_empty, duties_act m c x false hx, bigSep_singleton, payload_send]
theorem rest_recv (hx : act x = true) : bigSep ((ringRd (F := F) m).duties (recvCell c x) 0 \ ∅) (fun d => (ringRd (F := F) m).payload (recvCell c x) 0 d) = recvPay m c x := by
  rw [Finset.sdiff_empty, duties_act m c x true hx, bigSep_singleton, payload_recv]

end Sched

/-! ## What each device owes, and the levels -/

/-- What device `c` owes for the copies of a list: the credit of each at its receiver. -/
def owL (c : Dev nD) : List X → CellTallies nD τ sig Unit
  | [] => 0
  | x :: l => owL c l + tallyAt (recvCell (nb x.1 c) x) () N

/-- What device `c` owes at launch: its copies and one unit to each neighbour's barrier. -/
def O₁ (c : Dev nD) : CellTallies nD τ sig Unit := owL c allX + tallyAt (barCell (nb true c)) () 1
def O₀ (c : Dev nD) : CellTallies nD τ sig Unit := O₁ c + tallyAt (barCell (nb false c)) () 1

def L (g : GSem nD τ sig) : Finset Unit := if g.1.2 = .tc then {()} else ∅
/-- Barrier cells at 1, the receive cells of hop `h` at `2 + h`, everything else at 0. -/
def lv (g : GSem nD τ sig) (_ : Unit) : ℕ := match kind g.2 with
  | some none => 1
  | some (some (true, x)) => 2 + x.2.1.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kind_csem]
theorem lv_recv (c : Dev nD) (x : X) (u : Unit) : lv (recvCell c x) u = 2 + x.2.1.val := by unfold lv; rw [kind_csem]

theorem owL_pos {c : Dev nD} {l : List X} {g : GSem nD τ sig} {u : Unit} (h : 0 < owL c l g u) : ∃ x ∈ l, g = recvCell (nb x.1 c) x := by
  induction l with
  | nil => exact absurd h (Nat.lt_irrefl 0)
  | cons x l ih =>
    rcases Pipeline.add_pos_cases h with h | h
    · obtain ⟨y, hy, e⟩ := ih h; exact ⟨y, List.mem_cons_of_mem _ hy, e⟩
    · exact ⟨x, List.mem_cons_self, (Pipeline.tallyAt_pos h).1⟩

theorem O₀_pos {c : Dev nD} {g : GSem nD τ sig} {u : Unit} (h : 0 < O₀ c g u) : g.1.2 = .tc ∧ 0 < lv g u := by
  rcases Pipeline.add_pos_cases h with h | h
  · rcases Pipeline.add_pos_cases h with h | h
    · obtain ⟨y, -, rfl⟩ := owL_pos h; exact ⟨rfl, by rw [lv_recv]; omega⟩
    · rw [(Pipeline.tallyAt_pos h).1]; exact ⟨rfl, by rw [lv_bar]; decide⟩
  · rw [(Pipeline.tallyAt_pos h).1]; exact ⟨rfl, by rw [lv_bar]; decide⟩

theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L := L) (lev := lv) (by rw [L_tc]; exact Finset.mem_singleton_self _) fun g i hg => ?_
    obtain ⟨h1, h2⟩ := O₀_pos hg
    refine ⟨by unfold L; rw [if_pos h1]; exact Finset.mem_singleton_self _, ?_⟩
    unfold lv at h2 ⊢; rw [hq]; exact h2
  · rw [MayWait_zero]; iintro -; iempintro

theorem mayWait_bar (c : Dev nD) : (levAts L lv : sProp 𝕄) ⊢ MayWait (c : Thread nD τ) (.reg barS) () (owL c allX) := by
  refine Pipeline.mayWait_of_levAts (L := L) (lev := lv) (by rw [L_tc]; exact Finset.mem_singleton_self _) fun g i hg => ?_
  obtain ⟨y, -, rfl⟩ := owL_pos hg
  refine ⟨by rw [L_tc]; exact Finset.mem_singleton_self _, ?_⟩
  rw [lv_recv, show lv ((c : Thread nD τ), .reg barS) () = 1 from lv_bar c ()]; omega

/-- A landing may be waited for while only later hops' copies are owed. -/
theorem mayWait_recv (c : Dev nD) (x : X) (l : List X) (hl : ∀ y ∈ l, x.2.1.val < y.2.1.val) :
    (levAts L lv : sProp 𝕄) ⊢ MayWait (c : Thread nD τ) (csem (some (true, x))) () (owL c l) := by
  refine Pipeline.mayWait_of_levAts (L := L) (lev := lv) (by rw [L_tc]; exact Finset.mem_singleton_self _) fun g i hg => ?_
  obtain ⟨y, hy, rfl⟩ := owL_pos hg
  refine ⟨by rw [L_tc]; exact Finset.mem_singleton_self _, ?_⟩
  rw [lv_recv, lv_recv]
  have := hl y hy; omega

end Cert.KernelIdeal.Ring

end
-- ==== Proof.Ideal.Body.lean ====
/-
The kernel's steps, one rule each: the store of a piece of the device's own slot, a send, a landing, a landing passed on, the
end of a send; and the rule for a list of steps.
-/
module

public import proofs.«01_k».proof.Proof.Ideal.Sched

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Chains over lists -/

theorem bigSepL_ite (l : List X) (p : X → Bool) (Φ : X → sProp 𝕄) :
    bigSepL (l.filter p) Φ = bigSepL l (fun x => if p x then Φ x else iprop(emp)) := by
  induction l with
  | nil => rfl
  | cons x l ih =>
    rw [bigSepL_cons']
    cases h : p x
    · rw [List.filter_cons_of_neg (by simp [h]), ih, if_neg (by simp)]; exact BI.Entails.antisymm (emp_sep (PROP := sProp 𝕄)).2 (emp_sep (PROP := sProp 𝕄)).1
    · rw [List.filter_cons_of_pos h, bigSepL_cons', ih, if_pos rfl]

theorem sep_swap (A B C D : sProp 𝕄) : iprop((A ∗ B) ∗ C ∗ D) ⊢ iprop((A ∗ C) ∗ B ∗ D) := by
  iintro ⟨⟨H1, H2⟩, H3, H4⟩
  isplitl [H1 H3]
  · isplitl [H1] <;> iassumption
  · isplitl [H2] <;> iassumption

theorem bigSepL_sep {I : Type} (l : List I) (Φ Ψ : I → sProp 𝕄) : bigSepL l (fun x => iprop(Φ x ∗ Ψ x)) = iprop(bigSepL l Φ ∗ bigSepL l Ψ) := by
  induction l with
  | nil => exact BI.Entails.antisymm (emp_sep (PROP := sProp 𝕄)).2 (emp_sep (PROP := sProp 𝕄)).1
  | cons x l ih =>
    rw [bigSepL_cons', bigSepL_cons', bigSepL_cons', ih]
    exact BI.Entails.antisymm (sep_swap _ _ _ _) (sep_swap _ _ _ _)

/-- What every copy needs, split into the first sends and what each landing passes on. -/
theorem first_pass (Φ : X → sProp 𝕄) :
    bigSepL allX Φ = iprop(bigSepL firstX Φ ∗ bigSepL allX (fun x => if fwd x then Φ (nx x) else iprop(emp))) := by
  conv_lhs => rw [allX_split]
  rw [bigSepL_append, bigSepL_map, bigSepL_ite]

theorem bigSepL_upd {R : sProp 𝕄} [BI.Persistent R] (l : List X) (A B : X → sProp 𝕄) (h : ∀ x ∈ l, iprop(R ∗ A x) ⊢ |={Set.univ}=> B x) :
    iprop(R ∗ bigSepL l A) ⊢ |={Set.univ}=> bigSepL l B := by
  induction l with
  | nil => iintro ⟨-, H⟩; imodintro; iexact H
  | cons x l ih =>
    rw [bigSepL_cons', bigSepL_cons']
    iintro ⟨#HR, Hx, Hl⟩
    imod (h x List.mem_cons_self) $$ [Hx] with Hx
    · isplitr; · iexact HR
      iexact Hx
    imod (ih fun y hy => h y (List.mem_cons_of_mem _ hy)) $$ [Hl] with Hl
    · isplitr; · iexact HR
      iexact Hl
    imodintro
    isplitl [Hx] <;> iassumption

/-! ## The records every device may read -/

def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (ringRd m) (K ck) (kcell ck) := by
  unfold records
  iintro ⟨#H, -⟩
  iapply (show (bigSep Finset.univ fun ck : Dev nD × CK => (cellInv ER (ringRd m) (K ck) (kcell ck) : sProp 𝕄)) ⊢ cellInv ER (ringRd m) (K ck) (kcell ck) from
    bigSep_elim (Finset.mem_univ ck))
  iexact H
theorem reached_at (K : Dev nD × CK → ℕ) (ck : Dev nD × CK) : records m K ⊢ reached ER (kcell ck) 0 := by
  unfold records
  iintro ⟨-, #H⟩
  iapply (show (bigSep Finset.univ fun ck : Dev nD × CK => (reached ER (kcell ck) 0 : sProp 𝕄)) ⊢ reached ER (kcell ck) 0 from
    bigSep_elim (Finset.mem_univ ck))
  iexact H

/-- What a device owes, whatever it has waited for. -/
def owesW (c : Dev nD) (O : CellTallies nD τ sig Unit) : sProp 𝕄 := iprop(∃ W, owes (c : Thread nD τ) O W)

/-- The program `p` on device `c`. -/
abbrev run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A list of steps, each using what its element brings and leaving something for what follows. -/
theorem run_list {R : sProp 𝕄} [BI.Persistent R] (c : Dev nD) (A B : X → sProp 𝕄) (O : List X → CellTallies nD τ sig Unit)
    (step : X → Prog (TpuEff nD τ sig (Elt F) Λ₀ .tc) PUnit → Prog (TpuEff nD τ sig (Elt F) Λ₀ .tc) PUnit) (r : X → X → Prop) (Q : PUnit → sProp 𝕄) (ok : X → Prop)
    (hstep : ∀ x l, ok x → (∀ y ∈ l, r x y) → ∀ p, iprop(R ∗ A x ∗ owesW c (O (x :: l)) ∗ ((B x ∗ owesW c (O l)) -∗ run c p Q)) ⊢ run c (step x p) Q)
    (l : List X) (hr : l.Pairwise r) (hok : ∀ x ∈ l, ok x) (p : Prog (TpuEff nD τ sig (Elt F) Λ₀ .tc) PUnit) :
    iprop(R ∗ bigSepL l A ∗ owesW c (O l) ∗ ((bigSepL l B ∗ owesW c (O [])) -∗ run c p Q)) ⊢ run c (l.foldr step p) Q := by
  induction l with
  | nil =>
    rw [List.foldr_nil, bigSepL_nil, bigSepL_nil]
    iintro ⟨-, H, HO, HW⟩
    iapply HW
    isplitl [H] <;> iassumption
  | cons x l ih =>
    rw [bigSepL_cons', bigSepL_cons', List.foldr_cons]
    rw [List.pairwise_cons] at hr
    iintro ⟨#HR, ⟨Hx, Hl⟩, HO, HW⟩
    iapply (hstep x l (hok x List.mem_cons_self) hr.1 (l.foldr step p))
    isplitr; · iexact HR
    isplitl [Hx]; · iexact Hx
    isplitl [HO]; · iexact HO
    iintro ⟨HB, HO⟩
    iapply (ih hr.2 fun y hy => hok y (List.mem_cons_of_mem _ hy))
    isplitr; · iexact HR
    isplitl [Hl]; · iexact Hl
    isplitl [HO]; · iexact HO
    iintro ⟨HBl, HO⟩
    iapply HW
    isplitl [HB HBl]
    · isplitl [HB] <;> iassumption
    iexact HO

/-! ## Contents of a piece -/

theorem kvAll_emb (r : Fin 16) (q : Fin 4) (j : S128x512.Idx) : kvAll m ((pM r q).view.emb j) = ownBlk m (rg r) q j := by
  have e (a : Fin 2) : (((pM r q).view.emb j : S2048x2048.Idx) a).val = off r q a + (j a).val := ValueKit.view_emb_slice_whole_unit_val _ _ _ _ _ _
  have e0 : (((pM r q).view.emb j : S2048x2048.Idx) 0).val = 128 * r.val + (j 0).val := e 0
  have e1 : (((pM r q).view.emb j : S2048x2048.Idx) 1).val = 512 * q.val + (j 1).val := e 1
  have j0 : (j 0).val < 128 := (j 0).isLt
  have j1 : (j 1).val < 512 := (j 1).isLt
  unfold kvAll
  dsimp only
  rw [e0, e1]
  have h1 : Fin.ofNat 16 ((128 * r.val + (j 0).val) / 128) = r := Fin.ext (by show _ % 16 = _; have := r.isLt; omega)
  have h2 : Fin.ofNat 4 ((512 * q.val + (j 1).val) / 512) = q := Fin.ext (by show _ % 4 = _; have := q.isLt; omega)
  rw [h1, h2]
  congr 1
  funext a
  fin_cases a
  · exact Fin.ext (by show (128 * r.val + (j 0).val) % 128 % 128 = (j 0).val; omega)
  · exact Fin.ext (by show (512 * q.val + (j 1).val) % 512 % 512 = (j 1).val; omega)

/-- What a write of a whole piece leaves on the piece. -/
theorem piece_write (r : Fin 16) (q : Fin 4) (f : (cc0_scratch0 : Ref sig .tc).ty.Contents (Elt F)) (w : S128x512.Idx → Elt F .bf16) (hw : w = ownBlk m (rg r) q)
    (i : S2048x2048.Idx) (hi : i ∈ (pM r q).view.set) : (pM r q).view.write (Elt F) f w Finset.univ i = kvAll m i := by
  obtain ⟨j, -, rfl⟩ := Finset.mem_map.mp hi
  refine (View.write_emb_of_mem (v := (pM r q).view) f w (Finset.mem_univ j)).trans ?_
  rw [show kvAll m ((pM r q).view.emb j) = ownBlk m (rg r) q j from kvAll_emb m r q j, hw]
  rfl

theorem piece_read (r : Fin 16) (q : Fin 4) : (pM r q).view.read (Elt F) (kvAll m) = ownBlk m (rg r) q := by
  funext j
  exact (View.read_apply (v := (pM r q).view) _ _).trans (kvAll_emb m r q j)

/-! ## The steps -/

section Steps

variable (K : Dev nD × CK → ℕ)

/-- The store of a quarter of the device's own slot. -/
theorem run_own (Kt : PUnit → sProp 𝕄) (c : Dev nD) (q : Fin 4) (o : Fin 2 → ℕ) (hin : ∀ a, o a + S128x512.size a ≤ S2048x2048.size a) (ho : o = off (rp c) q)
    (w : FVec F S128x512 .bf16) (hw : w = ownBlk m c q)
    {hl : (kvM : Memref sig .tc .vmem S2048x2048 .bf16).view.LoadsAt (Rect.unit (s := S2048x2048) o S128x512.size hin).toLoadRect}
    {hx : ((kvM : Memref sig .tc .vmem S2048x2048 .bf16).access (Rect.unit (s := S2048x2048) o S128x512.size hin)).Stores Finset.univ}
    {hm} (f : (cc0_scratch0 : Ref sig .tc).ty.Contents (Elt F)) (p : Prog (TpuEff nD τ sig (Elt F) Λ₀ .tc) PUnit) :
    pcs c (rp c) q fullShare f ⊢ iprop((pcs c (rp c) q fullShare (kvAll m) -∗ run c p Kt)
      -∗ run c (.op (.load kvM (Rect.unit (s := S2048x2048) o S128x512.size hin).toLoadRect hl) fun _ =>
          .op (.store kvM (Rect.unit (s := S2048x2048) o S128x512.size hin) w Finset.univ hx hm) fun _ => p) Kt) := by
  subst ho
  unfold pcs
  iintro Hp Hk
  iapply (wp_load_rect 𝒱₀ (c : Thread nD τ) none Set.univ (m := kvM) (r := pR (rp c) q) (S := (pM (rp c) q).view.set) (Finset.Subset.refl _)) $$ Hp
  iintro Hp
  iapply (wp_store 𝒱₀ (c : Thread nD τ) none Set.univ (m := kvM) (r := pR (rp c) q) (S := (pM (rp c) q).view.set) (Mk := Finset.univ) (Finset.Subset.refl _)) $$ Hp
  iintro Hp
  iapply Hk
  iapply (Entails.of_eq (pointsTo_congr (fun i hi => piece_write m (rp c) q f w (by rw [hw, rg_rp]) i hi)))
  iexact Hp

/-- What a send uses besides its source: the right to pay its two cells, and the place it lands in. -/
def tokX (c : Dev nD) (x : X) : sProp 𝕄 := iprop(dutyTok ER (sendCell c x) 0 false ∗ dutyTok ER (recvCell (nb x.1 c) x) 0 false)
def sndRes (c : Dev nD) (x : X) : sProp 𝕄 := iprop(tokX (F := F) c x ∗ slotAt (F := F) c x)

theorem run_send_at (Kt : PUnit → sProp 𝕄) (c n : Dev nD) (x : X) (hx : act x = true) (hn : n = nb x.1 c) (o : Fin 2 → ℕ) (hin : ∀ a, o a + S128x512.size a ≤ S2048x2048.size a)
    (ho : o = off (srcSlot c x) x.2.2) {hsc : (kvM.slice (Rect.unit (s := S2048x2048) o S128x512.size hin) (fun _ => rfl) : Memref sig (Dev.tc n : Thread nD τ).2.kind .vmem S128x512 .bf16).view.ref.isScScratch = false}
    {hsrc : (kvM.slice (Rect.unit (s := S2048x2048) o S128x512.size hin) (fun _ => rfl) : Memref sig .tc .vmem S128x512 .bf16).view.WordExact}
    {hdst : (kvM.slice (Rect.unit (s := S2048x2048) o S128x512.size hin) (fun _ => rfl) : Memref sig .tc .vmem S128x512 .bf16).view.WordExact}
    {hsem : DmaTarget.Typed .vmem (.dma (recvSem x)) (.remote (Dev.tc n : Thread nD τ) (kvM.slice (Rect.unit (s := S2048x2048) o S128x512.size hin) (fun _ => rfl) : Memref sig .tc .vmem S128x512 .bf16) (.dma (sendSem x)) hsc)}
    (O : CellTallies nD τ sig Unit) (p : Prog (TpuEff nD τ sig (Elt F) Λ₀ .tc) PUnit) :
    iprop(records m K ∗ sndRes c x ∗ sendPay m c x ∗ owesW c (O + tallyAt (recvCell (nb x.1 c) x) () N)
        ∗ ((cred (tallyAt (sendCell c x) () N) ∗ owesW c O) -∗ run c p Kt))
      ⊢ run c (.op (.enqueueDma (kvM.slice (Rect.unit (s := S2048x2048) o S128x512.size hin) (fun _ => rfl) : Memref sig .tc .vmem S128x512 .bf16)
          (.remote (Dev.tc n : Thread nD τ) (kvM.slice (Rect.unit (s := S2048x2048) o S128x512.size hin) (fun _ => rfl) : Memref sig .tc .vmem S128x512 .bf16) (.dma (sendSem x)) hsc)
          (.dma (recvSem x)) hsrc hdst hsem) fun _ => p) Kt := by
  subst hn ho
  unfold sndRes tokX slotAt owesW
  iintro ⟨#HR, ⟨⟨Ht1, Ht2⟩, ⟨%fd, Hd⟩⟩, Hs, ⟨%W, HO⟩, Hk⟩
  iapply (Rounds.wp_send_pointsTo 𝒱₀ ER (ringRd m) (c : Thread nD τ) none (κ₁ := K (c, some (false, x))) (κ₂ := K (nb x.1 c, some (true, x)))
    (c' := ((nb x.1 c : Dev nD) : Thread nD τ)) (src := pM (srcSlot c x) x.2.2) (dst := pM (srcSlot c x) x.2.2)
    (sS := .dma (sendSem x)) (sem := .dma (recvSem x))
    (r₁ := 0) (r₂ := 0) (d₁ := false) (d₂ := false) (fs := kvAll m) (fd := fd) (q := lent x)
    (by rw [show ((c : Thread nD τ), SemLoc.dma (sendSem x)) = kcell (c, some (false, x)) from rfl, duties_act m c x false hx]; exact Finset.mem_singleton_self _)
    (by rw [show (((nb x.1 c : Dev nD) : Thread nD τ), SemLoc.dma (recvSem x)) = kcell (nb x.1 c, some (true, x)) from rfl, duties_act m (nb x.1 c) x true hx]; exact Finset.mem_singleton_self _)
    () () N rfl (amount_xfer m c x false false) (amount_xfer m (nb x.1 c) x true false) O rfl (W := W)
    (by rw [show (ringRd m).payload ((c : Thread nD τ), SemLoc.dma (sendSem x)) 0 false = sendPay m c x from payload_send m c x false]; exact BI.Entails.refl _)
    (by
      rw [show (ringRd m).payload (((nb x.1 c : Dev nD) : Thread nD τ), SemLoc.dma (recvSem x)) 0 false = recvPay m (nb x.1 c) x from payload_recv m (nb x.1 c) x false]
      unfold recvPay pcs
      rw [dstSlot_nb]
      exact Entails.of_eq (pointsTo_congr fun i hi => piece_write m (srcSlot c x) x.2.2 fd _ (piece_read m _ _) i hi)))
    $$ [Ht1 Ht2 Hd Hs HO]
  · isplitr; · iapply (inv_at m K (c, some (false, x))); iexact HR
    isplitr; · iapply (inv_at m K (nb x.1 c, some (true, x))); iexact HR
    isplitl [Hs]; · unfold sendPay pcs; iexact Hs
    isplitl [Hd]; · unfold pcs; iexact Hd
    isplitl [HO]; · iexact HO
    isplitl [Ht1]; · iexact Ht1
    isplitr; · iapply (reached_at m K (c, some (false, x))); iexact HR
    isplitl [Ht2]; · iexact Ht2
    iapply (reached_at m K (nb x.1 c, some (true, x))); iexact HR
  iintro ⟨Hc, HO⟩
  iapply Hk
  isplitl [Hc]; · iexact Hc
  iexists W; iexact HO

theorem run_send (Kt : PUnit → sProp 𝕄) (c : Dev nD) (x : X) (hx : act x = true) (O : CellTallies nD τ sig Unit) (p : Prog (TpuEff nD τ sig (Elt F) Λ₀ .tc) PUnit) :
    iprop(records m K ∗ sndRes c x ∗ sendPay m c x ∗ owesW c (O + tallyAt (recvCell (nb x.1 c) x) () N)
        ∗ ((cred (tallyAt (sendCell c x) () N) ∗ owesW c O) -∗ run c p Kt)) ⊢ run c (sendOp c x p) Kt :=
  run_send_at m K Kt c (devX c x.1) x hx (devX_eq c x.1) (offX c x) (offX_inb c x) (offX_eq c x) O p

end Steps

end Cert.KernelIdeal.Ring

end
-- ==== Proof.Ideal.Pass.lean ====
/-
The waits, the three lists of steps the kernel runs, and the buffer as its pieces.
-/
module

public import proofs.«01_k».proof.Proof.Ideal.Body
public import Idealize.ShloMosaic.Lib.Pipeline.TalkSched

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Waits -/

section Waits

variable (K : Dev nD × CK → ℕ)

theorem run_recv (Kt : PUnit → sProp 𝕄) (c : Dev nD) (x : X) (hx : act x = true) (l : List X) (hl : ∀ y ∈ l, x.2.1.val < y.2.1.val) (p : Prog (TpuEff nD τ sig (Elt F) Λ₀ .tc) PUnit) :
    iprop(records m K ∗ levAts L lv ∗ cred (tallyAt (recvCell c x) () N) ∗ atPos ER (recvCell c x) 0 ∅ 0 ∗ owesW c (owL c l)
        ∗ ((atPos ER (recvCell c x) 1 ∅ 0 ∗ recvPay m c x ∗ owesW c (owL c l)) -∗ run c p Kt)) ⊢ run c (recvOp c x p) Kt := by
  have hr : bigSep ((ringRd m).duties ((c : Thread nD τ), SemLoc.dma (recvSem x)) 0 \ ∅) (fun d => (ringRd m).payload ((c : Thread nD τ), SemLoc.dma (recvSem x)) 0 d) = recvPay m c x :=
    rest_recv m c x hx
  unfold recvOp owesW
  iintro ⟨#HR, #HL, Hc, Ha, ⟨%W, HO⟩, Hk⟩
  iapply (Rounds.wp_wait_rest_token 𝒱₀ ER (ringRd m) (c : Thread nD τ) none (κ := K (c, some (true, x))) (sm := .dma (recvSem x))
      (wpE_waitDma2_eq 𝒱₀ (c : Thread nD τ) none Set.univ) (Set.mem_univ _) () (O := owL c l) (W := W) (R := 0) (m := 0) (T := ∅)
      (by rw [Nat.zero_add]; exact (expect_xfer m c x true hx).symm)) $$ [Hc HO Ha]
  · isplitr; · iapply (inv_at m K (c, some (true, x))); iexact HR
    isplitl [Hc]; · iexact Hc
    isplitl [HO]; · iexact HO
    isplitr; · iapply (mayWait_recv c x l hl); iexact HL
    iexact Ha
  iintro ⟨HO, Ha, -, Hp⟩
  ihave Hp := (Entails.of_eq hr) $$ Hp
  iapply Hk
  isplitl [Ha]; · iexact Ha
  isplitl [Hp]; · iexact Hp
  iexists _; iexact HO

theorem run_done (Kt : PUnit → sProp 𝕄) (c : Dev nD) (x : X) (hx : act x = true) (p : Prog (TpuEff nD τ sig (Elt F) Λ₀ .tc) PUnit) :
    iprop(records m K ∗ (cred (tallyAt (sendCell c x) () N) ∗ atPos ER (sendCell c x) 0 ∅ 0) ∗ owesW c 0
        ∗ (((atPos ER (sendCell c x) 1 ∅ 0 ∗ sendPay m c x) ∗ owesW c 0) -∗ run c p Kt)) ⊢ run c (doneOp c x p) Kt := by
  have hr : bigSep ((ringRd m).duties ((c : Thread nD τ), SemLoc.dma (sendSem x)) 0 \ ∅) (fun d => (ringRd m).payload ((c : Thread nD τ), SemLoc.dma (sendSem x)) 0 d) = sendPay m c x :=
    rest_send m c x hx
  unfold doneOp owesW
  iintro ⟨#HR, ⟨Hc, Ha⟩, ⟨%W, HO⟩, Hk⟩
  iapply (Rounds.wp_wait_rest_token 𝒱₀ ER (ringRd m) (c : Thread nD τ) none (κ := K (c, some (false, x))) (sm := .dma (sendSem x))
      (wpE_waitDma2_eq 𝒱₀ (c : Thread nD τ) none Set.univ) (Set.mem_univ _) () (O := 0) (W := W) (R := 0) (m := 0) (T := ∅)
      (by rw [Nat.zero_add]; exact (expect_xfer m c x false hx).symm)) $$ [Hc HO Ha]
  · isplitr; · iapply (inv_at m K (c, some (false, x))); iexact HR
    isplitl [Hc]; · iexact Hc
    isplitl [HO]; · iexact HO
    isplitr; · rw [MayWait_zero]; iempintro
    iexact Ha
  iintro ⟨HO, Ha, -, Hp⟩
  ihave Hp := (Entails.of_eq hr) $$ Hp
  iapply Hk
  isplitl [Ha Hp]
  · isplitl [Ha]; · iexact Ha
    iexact Hp
  iexists _; iexact HO

/-! ## A landing passed on -/

/-- What the wait for a landing uses, with what its forward uses. -/
def passA (c : Dev nD) (x : X) : sProp 𝕄 :=
  iprop((cred (tallyAt (recvCell c x) () N) ∗ atPos ER (recvCell c x) 0 ∅ 0) ∗ (if fwd x then sndRes (F := F) c (nx x) else iprop(emp)))
/-- What it leaves: half of the landed piece to read from; the other half too if it is not passed on, and else the credit of
    the send that holds it. -/
def passB (c : Dev nD) (x : X) : sProp 𝕄 :=
  iprop(atPos ER (recvCell c x) 1 ∅ 0 ∗ pcs c (dstSlot c x) x.2.2 (fullShare : PosShare TreeShare).left (kvAll m)
    ∗ (if fwd x then cred (tallyAt (sendCell c (nx x)) () N) else pcs c (dstSlot c x) x.2.2 (fullShare : PosShare TreeShare).right (kvAll m)))

theorem pcs_halves (c : Dev nD) (r : Fin 16) (q : Fin 4) (sh : PosShare TreeShare) (f : (cc0_scratch0 : Ref sig .tc).ty.Contents (Elt F)) :
    pcs c r q sh f ⊢ iprop(pcs c r q sh.left f ∗ pcs c r q sh.right f) := by
  unfold pcs; exact (pointsTo_share (PosShare.mem_left_op_right sh)).1
theorem pcs_join (c : Dev nD) (r : Fin 16) (q : Fin 4) (sh : PosShare TreeShare) (f : (cc0_scratch0 : Ref sig .tc).ty.Contents (Elt F)) :
    iprop(pcs c r q sh.left f ∗ pcs c r q sh.right f) ⊢ pcs c r q sh f := by
  unfold pcs; exact (pointsTo_share (PosShare.mem_left_op_right sh)).2

theorem fwd_spec (x : X) (h : fwd x = true) : act (nx x) = true ∧ x.2.1.val < 7 ∧ (nx x).2.1 ≠ 0 ∧ (nx x).2.1.val = x.2.1.val + 1 := by revert h; revert x; decide +kernel

theorem sendPay_nx (c : Dev nD) (x : X) (h : fwd x = true) : sendPay m c (nx x) = pcs c (dstSlot c x) x.2.2 (fullShare : PosShare TreeShare).right (kvAll m) := by
  obtain ⟨-, h1, h2, -⟩ := fwd_spec x h
  unfold sendPay lent
  rw [srcSlot_nx c x h1, if_neg h2]

theorem run_forward (Kt : PUnit → sProp 𝕄) (c : Dev nD) (x : X) (l : List X) (p : Prog (TpuEff nD τ sig (Elt F) Λ₀ .tc) PUnit) :
    iprop(records m K ∗ (if fwd x then sndRes (F := F) c (nx x) else iprop(emp)) ∗ pcs c (dstSlot c x) x.2.2 (fullShare : PosShare TreeShare).right (kvAll m)
        ∗ owesW c (owL c (((x :: l).filter fwd).map nx))
        ∗ (((if fwd x then cred (tallyAt (sendCell c (nx x)) () N) else pcs c (dstSlot c x) x.2.2 (fullShare : PosShare TreeShare).right (kvAll m))
            ∗ owesW c (owL c ((l.filter fwd).map nx))) -∗ run c p Kt)) ⊢ run c (match fwd x with | true => sendOp c (nx x) p | false => p) Kt := by
  cases hf : fwd x
  · rw [List.filter_cons_of_neg (by rw [hf]; exact Bool.false_ne_true), if_neg Bool.false_ne_true, if_neg Bool.false_ne_true]
    iintro ⟨#HR, -, Hp, HO, Hk⟩
    iapply Hk
    isplitl [Hp] <;> iassumption
  · rw [List.filter_cons_of_pos hf, List.map_cons, if_pos rfl, if_pos rfl, ← sendPay_nx m c x hf]
    exact run_send m K Kt c (nx x) (fwd_spec x hf).1 (owL c ((l.filter fwd).map nx)) p

theorem run_pass (Kt : PUnit → sProp 𝕄) (c : Dev nD) (x : X) (hx : act x = true) (l : List X) (hl : ∀ y ∈ l, x.2.1.val ≤ y.2.1.val) (p : Prog (TpuEff nD τ sig (Elt F) Λ₀ .tc) PUnit) :
    iprop((records m K ∗ levAts L lv) ∗ passA c x ∗ owesW c (owL c (((x :: l).filter fwd).map nx))
        ∗ ((passB m c x ∗ owesW c (owL c ((l.filter fwd).map nx))) -∗ run c p Kt)) ⊢ run c (passOp c x p) Kt := by
  have hlow : ∀ y ∈ (((x :: l).filter fwd).map nx), x.2.1.val < y.2.1.val := fun y hy => by
    obtain ⟨z, hz, rfl⟩ := List.mem_map.mp hy
    obtain ⟨hz1, hz2⟩ := List.mem_filter.mp hz
    rw [(fwd_spec z hz2).2.2.2]
    rcases List.mem_cons.mp hz1 with rfl | hz1
    · omega
    · have := hl z hz1; omega
  unfold passA passB passOp
  iintro ⟨⟨#HR, #HL⟩, ⟨⟨Hc, Ha⟩, Hs⟩, HO, Hk⟩
  iapply (run_recv m K Kt c x hx _ hlow)
  isplitr; · iexact HR
  isplitr; · iexact HL
  isplitl [Hc]; · iexact Hc
  isplitl [Ha]; · iexact Ha
  isplitl [HO]; · iexact HO
  iintro ⟨Ha, Hp, HO⟩
  unfold recvPay
  ihave Hp := (pcs_halves c (dstSlot c x) x.2.2 fullShare (kvAll m)) $$ Hp
  icases Hp with ⟨Hp1, Hp2⟩
  iapply (run_forward m K Kt c x l p)
  isplitr; · iexact HR
  isplitl [Hs]; · iexact Hs
  isplitl [Hp2]; · iexact Hp2
  isplitl [HO]; · iexact HO
  iintro ⟨Hn, HO⟩
  iapply Hk
  isplitr [HO]
  · isplitl [Ha]; · iexact Ha
    isplitl [Hp1]; · iexact Hp1
    iexact Hn
  iexact HO

end Waits

/-! ## The three lists of steps -/

section Lists

variable (K : Dev nD × CK → ℕ)

theorem run_firsts (Kt : PUnit → sProp 𝕄) (c : Dev nD) (p : Prog (TpuEff nD τ sig (Elt F) Λ₀ .tc) PUnit) :
    iprop(records m K ∗ bigSepL firstX (fun x => iprop(sndRes c x ∗ sendPay m c x)) ∗ owesW c (owL c allX)
        ∗ ((bigSepL firstX (fun x => cred (tallyAt (sendCell c x) () N)) ∗ owesW c (owL c ((allX.filter fwd).map nx))) -∗ run c p Kt))
      ⊢ run c (firstX.foldr (sendOp c) p) Kt := by
  have h := run_list (R := records m K) c (fun x => iprop(sndRes (F := F) c x ∗ sendPay m c x)) (fun x => cred (tallyAt (sendCell c x) () N))
    (fun l => owL c (l ++ (allX.filter fwd).map nx)) (sendOp c) (fun _ _ => True) Kt (fun x => act x = true)
    (fun x l hx _ p => by
      iintro ⟨#HR, ⟨H1, H2⟩, HO, Hk⟩
      iapply (run_send m K Kt c x hx (owL c (l ++ (allX.filter fwd).map nx)) p)
      isplitr; · iexact HR
      isplitl [H1]; · iexact H1
      isplitl [H2]; · iexact H2
      isplitl [HO]; · iexact HO
      iexact Hk)
    firstX (by decide +kernel) (by decide +kernel) p
  rw [← allX_split] at h
  exact h

theorem run_passes (Kt : PUnit → sProp 𝕄) (c : Dev nD) (p : Prog (TpuEff nD τ sig (Elt F) Λ₀ .tc) PUnit) :
    iprop((records m K ∗ levAts L lv) ∗ bigSepL allX (passA (F := F) c) ∗ owesW c (owL c ((allX.filter fwd).map nx))
        ∗ ((bigSepL allX (passB m c) ∗ owesW c 0) -∗ run c p Kt))
      ⊢ run c (allX.foldr (passOp c) p) Kt :=
  run_list (R := iprop(records m K ∗ levAts L lv)) c (passA (F := F) c) (passB m c) (fun l => owL c ((l.filter fwd).map nx)) (passOp c)
    (fun x y => x.2.1.val ≤ y.2.1.val) Kt (fun x => act x = true) (fun x l hx hl p => run_pass m K Kt c x hx l hl p)
    allX allX_sorted (fun x hx => (allX_mem x).mp hx) p

theorem run_dones (Kt : PUnit → sProp 𝕄) (c : Dev nD) (p : Prog (TpuEff nD τ sig (Elt F) Λ₀ .tc) PUnit) :
    iprop(records m K ∗ bigSepL allX (fun x => iprop(cred (tallyAt (sendCell c x) () N) ∗ atPos ER (sendCell c x) 0 ∅ 0)) ∗ owesW c 0
        ∗ ((bigSepL allX (fun x => iprop(atPos ER (sendCell c x) 1 ∅ 0 ∗ sendPay m c x)) ∗ owesW c 0) -∗ run c p Kt))
      ⊢ run c (doneX.foldr (doneOp c) p) Kt := by
  rw [← TalkSites.bigSepL_perm doneX_perm (doneX_perm.nodup_iff.mpr allX_nodup), ← TalkSites.bigSepL_perm doneX_perm (doneX_perm.nodup_iff.mpr allX_nodup)]
  exact run_list (R := records m K) c (fun x => iprop(cred (tallyAt (sendCell c x) () N) ∗ atPos ER (sendCell c x) 0 ∅ 0))
    (fun x => iprop(atPos ER (sendCell c x) 1 ∅ 0 ∗ sendPay m c x)) (fun _ => 0) (doneOp c) (fun _ _ => True) Kt (fun x => act x = true)
    (fun x l hx _ p => run_done m K Kt c x hx p) doneX (List.pairwise_of_forall fun _ _ => trivial)
    (fun x hx => (allX_mem x).mp (doneX_perm.mem_iff.mp hx)) p

end Lists

/-! ## The pieces of one buffer -/

theorem slots_nodup (c : Dev nD) : ([0, 1, 2, 3].map (fun q : Fin 4 => (rp c, q)) ++ allX.map (fun x => (dstSlot c x, x.2.2))).Nodup := by
  have h : ∀ c : Dev nD, (([0, 1, 2, 3].map (fun q : Fin 4 => (rp c, q)) ++ allX.map (fun x => (dstSlot c x, x.2.2))).map fun t => t.1.val * 4 + t.2.val).Nodup := by
    decide +kernel
  exact List.Nodup.of_map _ (h c)
theorem slots_univ (c : Dev nD) : (Finset.univ : Finset (Fin 16 × Fin 4)) = ([0, 1, 2, 3].map (fun q : Fin 4 => (rp c, q)) ++ allX.map (fun x => (dstSlot c x, x.2.2))).toFinset := by
  refine (Finset.eq_univ_of_card _ ?_).symm
  rw [List.toFinset_card_of_nodup (slots_nodup c), List.length_append, List.length_map, List.length_map]
  decide +kernel

theorem kv_pieces (c : Dev nD) (sh : PosShare TreeShare) (f : (cc0_scratch0 : Ref sig .tc).ty.Contents (Elt F)) :
    (((c : Thread nD τ).loc cc0_scratch0) ↦{sh} f : sProp 𝕄)
      = iprop(bigSepL [0, 1, 2, 3] (fun q : Fin 4 => pcs c (rp c) q sh f) ∗ bigSepL allX (fun x => pcs c (dstSlot c x) x.2.2 sh f)) := by
  have h1 : (((c : Thread nD τ).loc cc0_scratch0) ↦{sh} f : sProp 𝕄) = bigSep Finset.univ fun t : Fin 16 × Fin 4 => pcs c t.1 t.2 sh f := by
    unfold pcs
    rw [← pointsTo_biUnion (ℓ := (c : Thread nD τ).loc cc0_scratch0) Finset.univ (fun t : Fin 16 × Fin 4 => (pM t.1 t.2).view.set) (fun a _ b _ hab => piece_disjoint a b hab)]
    exact congrArg (fun S => ((c : Thread nD τ).loc cc0_scratch0 ↦[S]{sh} f : sProp 𝕄)) piece_cover.symm
  rw [h1, bigSep_eq_bigSepL_of_eq _ (slots_univ c) (slots_nodup c), bigSepL_append, bigSepL_map, bigSepL_map]

end Cert.KernelIdeal.Ring

end
-- ==== Proof.Ideal.Pieces.lean ====
/-
The buffer's pieces cut into shares and dealt to neighbours, and the closing of a device's cells.
-/
module

public import proofs.«01_k».proof.Proof.Ideal.Pass

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Shares -/

theorem pcs_share (c : Dev nD) (r : Fin 16) (q : Fin 4) (sh : PosShare TreeShare) (f : (cc0_scratch0 : Ref sig .tc).ty.Contents (Elt F)) :
    (pcs c r q sh f : sProp 𝕄) = iprop(pcs c r q sh.left f ∗ pcs c r q sh.right f) :=
  BI.Entails.antisymm (pcs_halves c r q sh f) (pcs_join c r q sh f)

/-- A chain over a list, cut by a test. -/
theorem bigSepL_test (l : List X) (p : X → Bool) (A B : X → sProp 𝕄) :
    bigSepL l (fun x => if p x then A x else B x)
      = iprop(bigSepL l (fun x => if p x then A x else iprop(emp)) ∗ bigSepL l (fun x => if p x then iprop(emp) else B x)) := by
  rw [← bigSepL_sep]
  refine congrArg (bigSepL l) (funext fun x => ?_)
  cases p x
  · rw [if_neg Bool.false_ne_true, if_neg Bool.false_ne_true, if_neg Bool.false_ne_true]
    exact BI.Entails.antisymm (emp_sep (PROP := sProp 𝕄)).2 (emp_sep (PROP := sProp 𝕄)).1
  · rw [if_pos rfl, if_pos rfl, if_pos rfl]
    exact BI.Entails.antisymm (sep_emp (PROP := sProp 𝕄)).2 (sep_emp (PROP := sProp 𝕄)).1

theorem bigSepL_dir (Φ : X → sProp 𝕄) :
    bigSepL allX Φ = iprop(bigSepL (allX.filter fun x => x.1 = false) Φ ∗ bigSepL (allX.filter fun x => x.1 = true) Φ) := by
  rw [← bigSepL_append]
  exact TalkSites.bigSepL_perm (by decide +kernel) allX_nodup Φ

theorem firstX_dir : firstX.Perm ([0, 1, 2, 3].map (fun q : Fin 4 => ((true, 0, q) : X)) ++ [0, 1, 2, 3].map (fun q : Fin 4 => ((false, 0, q) : X))) := by decide +kernel

theorem sendPay_first (c : Dev nD) (d : Bool) (q : Fin 4) :
    sendPay m c (d, 0, q) = pcs c (rp c) q (if d then (fullShare : PosShare TreeShare).right.left else (fullShare : PosShare TreeShare).right.right) (kvAll m) := by
  unfold sendPay lent
  rw [srcSlot_zero c _ rfl, if_pos rfl]

/-- A device's own slot, cut into what it keeps to read from and what it lends its first copies. -/
theorem own_split (c : Dev nD) :
    bigSepL [0, 1, 2, 3] (fun q : Fin 4 => pcs c (rp c) q fullShare (kvAll m))
      = iprop(bigSepL [0, 1, 2, 3] (fun q : Fin 4 => pcs c (rp c) q (fullShare : PosShare TreeShare).left (kvAll m)) ∗ bigSepL firstX (sendPay m c)) := by
  rw [TalkSites.bigSepL_perm firstX_dir (by decide +kernel) (sendPay m c), bigSepL_append, bigSepL_map, bigSepL_map, ← bigSepL_sep, ← bigSepL_sep]
  refine congrArg (bigSepL _) (funext fun q => ?_)
  rw [sendPay_first, sendPay_first, if_pos rfl, if_neg Bool.false_ne_true, ← pcs_share, ← pcs_share]

/-- The places a device's neighbours' copies land in, handed to the two neighbours. -/
theorem land_split (c : Dev nD) (f : (cc0_scratch0 : Ref sig .tc).ty.Contents (Elt F)) :
    bigSepL allX (fun x => pcs c (dstSlot c x) x.2.2 fullShare f) ⊢ iprop(barPay (F := F) (nb true c) false ∗ barPay (F := F) (nb false c) true) := by
  have h (d : Bool) : bigSepL (allX.filter fun x => x.1 = d) (fun x => pcs c (dstSlot c x) x.2.2 fullShare f) ⊢ barPay (F := F) (nb (!d) c) d := by
    unfold barPay
    refine bigSepL_mono fun x hx => ?_
    have hd : x.1 = d := by simpa using (List.mem_filter.mp hx).2
    subst hd
    unfold slotAt
    rw [nb_nb' x.1 c, ← dstSlot_nb (nb (!x.1) c) x, nb_nb' x.1 c]
    iintro H
    iexists f
    iexact H
  rw [bigSepL_dir]
  exact BIClass.sep_mono (h false) (h true)

/-- What a device has lent its first copies and what it has passed on, as the other halves of what it reads. -/
theorem lent_back (c : Dev nD) :
    iprop(bigSepL allX (sendPay m c) ∗ bigSepL allX (fun x => if fwd x then iprop(emp) else pcs c (dstSlot c x) x.2.2 (fullShare : PosShare TreeShare).right (kvAll m)))
      ⊢ iprop(bigSepL firstX (sendPay m c) ∗ bigSepL allX (fun x => pcs c (dstSlot c x) x.2.2 (fullShare : PosShare TreeShare).right (kvAll m))) := by
  have h : bigSepL allX (fun x => pcs c (dstSlot c x) x.2.2 (fullShare : PosShare TreeShare).right (kvAll m))
      = iprop(bigSepL allX (fun x => if fwd x then sendPay m c (nx x) else iprop(emp))
        ∗ bigSepL allX (fun x => if fwd x then iprop(emp) else pcs c (dstSlot c x) x.2.2 (fullShare : PosShare TreeShare).right (kvAll m))) := by
    rw [← bigSepL_test]
    refine congrArg (bigSepL allX) (funext fun x => ?_)
    by_cases hf : fwd x = true
    · rw [if_pos hf, sendPay_nx m c x hf]
    · rw [if_neg hf]
  rw [h, first_pass (sendPay m c)]
  iintro ⟨⟨H1, H2⟩, H3⟩
  isplitl [H1]; · iexact H1
  isplitl [H2] <;> iassumption

/-! ## The cells -/

def idleX : List X := [(false, 7, 0), (false, 7, 1), (true, 7, 2), (true, 7, 3)]

theorem idleX_spec : ∀ x ∈ idleX, ¬ act x = true := by decide +kernel

/-- The transfer cells of a device, receives first, in the order of the landings. -/
def xferL : List (Bool × X) :=
  (allX.map (fun x => (true, x)) ++ idleX.map (fun x => (true, x))) ++ (allX.map (fun x => (false, x)) ++ idleX.map (fun x => (false, x)))
theorem xferL_nodup : xferL.Nodup := by
  have h : (xferL.map fun k => ((if k.1 then 1 else 0) * 2 + (if k.2.1 then 1 else 0)) * 32 + k.2.2.1.val * 4 + k.2.2.2.val).Nodup := by decide +kernel
  exact List.Nodup.of_map _ h
theorem xferL_univ : (Finset.univ : Finset (Bool × X)) = xferL.toFinset := by
  refine (Finset.eq_univ_of_card _ ?_).symm
  rw [List.toFinset_card_of_nodup xferL_nodup]
  decide +kernel

theorem xfer_cells (Φ : Bool × X → sProp 𝕄) :
    bigSep Finset.univ Φ = iprop((bigSepL allX (fun x => Φ (true, x)) ∗ bigSepL idleX (fun x => Φ (true, x)))
      ∗ (bigSepL allX (fun x => Φ (false, x)) ∗ bigSepL idleX (fun x => Φ (false, x)))) := by
  rw [bigSep_eq_bigSepL_of_eq _ xferL_univ xferL_nodup, xferL, bigSepL_append, bigSepL_append, bigSepL_append, bigSepL_map, bigSepL_map, bigSepL_map, bigSepL_map]

/-- Where a device stands at its transfer cells. -/
def posX (c : Dev nD) (r : ℕ) : sProp 𝕄 :=
  iprop((bigSepL allX (fun x => atPos ER (recvCell c x) r ∅ 0) ∗ bigSepL idleX (fun x => atPos ER (recvCell c x) 0 ∅ 0))
      ∗ (bigSepL allX (fun x => atPos ER (sendCell c x) r ∅ 0) ∗ bigSepL idleX (fun x => atPos ER (sendCell c x) 0 ∅ 0)))

section Close
variable (K : Dev nD × CK → ℕ)

theorem close_cell (c : Dev nD) (k : CK) (r : ℕ) (h : ∀ r', r' ≥ r → (ringRd (F := F) m).duties (kcell (c, k)) r' = ∅) :
    iprop(records m K ∗ atPos ER (kcell (c, k)) r ∅ 0) ⊢ |={Set.univ}=> semVal (kcell (c, k)) 0 := by
  iintro ⟨#HR, H⟩
  iapply (Rounds.cell_close ER (ringRd m) (Set.mem_univ (K (c, k))) (fun h => h) (R := r) h)
  isplitr; · iapply (inv_at m K (c, k)); iexact HR
  iexact H

theorem close_all (c : Dev nD) :
    iprop(records m K ∗ posX (F := F) c 1) ⊢ |={Set.univ}=> bigSep Finset.univ (fun k : Bool × X => semVal (kcell (c, some k)) 0) := by
  rw [xfer_cells]
  unfold posX
  iintro ⟨#HR, ⟨H1, H2⟩, H3, H4⟩
  imod (bigSepL_upd (R := records m K) allX _ (fun x => semVal (recvCell c x) 0) (fun x _ => close_cell m K c (some (true, x)) 1 (duties_later m _))) $$ [H1] with H1
  · isplitr; · iexact HR
    iexact H1
  imod (bigSepL_upd (R := records m K) idleX _ (fun x => semVal (recvCell c x) 0) (fun x hx => close_cell m K c (some (true, x)) 0 (duties_idle m c x true (idleX_spec x hx)))) $$ [H2] with H2
  · isplitr; · iexact HR
    iexact H2
  imod (bigSepL_upd (R := records m K) allX _ (fun x => semVal (sendCell c x) 0) (fun x _ => close_cell m K c (some (false, x)) 1 (duties_later m _))) $$ [H3] with H3
  · isplitr; · iexact HR
    iexact H3
  imod (bigSepL_upd (R := records m K) idleX _ (fun x => semVal (sendCell c x) 0) (fun x hx => close_cell m K c (some (false, x)) 0 (duties_idle m c x false (idleX_spec x hx)))) $$ [H4] with H4
  · isplitr; · iexact HR
    iexact H4
  imodintro
  isplitl [H1 H2]
  · isplitl [H1] <;> iassumption
  isplitl [H3] <;> iassumption

end Close

end Cert.KernelIdeal.Ring

end
-- ==== Proof.Ideal.Value.lean ====
/-
What each device computes, as a function of the launch memory.
-/
module

public import proofs.«01_k».proof.Proof.Ideal.Sched

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel computes -/

abbrev xLd (o : Fin 3 → ℕ) (h : ∀ a, o a + S1x128x512.size a ≤ S2x128x512.size a) (c : Dev nD) : Vec F S1x128x512 .f32 :=
  (Memref.whole cc0_stg0_0 : Memref sig .tc .vmem S2x128x512 .f32).view.readAt (Elt F) (Rect.unit (s := S2x128x512) o S1x128x512.size h).toLoadRect (xstg m c)
abbrev wqLd (c : Dev nD) : Vec F S512x512 .f32 :=
  (Memref.whole cc0_stg1_0 : Memref sig .tc .vmem S512x512 .f32).view.readAt (Elt F) (Rect.unit (s := S512x512) ![0, 0] S512x512.size inb_S512x512_S512x512_0_0).toLoadRect (wqstg m c)
abbrev woLd (c : Dev nD) : Vec F S512x512 .f32 :=
  (Memref.whole cc0_stg2_0 : Memref sig .tc .vmem S512x512 .f32).view.readAt (Elt F) (Rect.unit (s := S512x512) ![0, 0] S512x512.size inb_S512x512_S512x512_0_0).toLoadRect (wostg m c)

theorem col_inb (q : Fin 4) (h : Fin 8) : ∀ a, (![0, 512 * q.val + 64 * h.val] : Fin 2 → ℕ) a + S2048x64.size a ≤ S2048x2048.size a := by
  intro a; fin_cases a
  · exact Nat.le_refl 2048
  · show 512 * q.val + 64 * h.val + 64 ≤ 2048; omega
/-- One head's columns of one quarter of the gathered buffer. -/
def col (q : Fin 4) (h : Fin 8) : Vec F S2048x64 .bf16 :=
  (kvM : Memref sig .tc .vmem S2048x2048 .bf16).view.readAt (Elt F) (Rect.unit (s := S2048x2048) ![0, 512 * q.val + 64 * h.val] S2048x64.size (col_inb q h)).toLoadRect (kvAll m)

theorem head_slices (h : Fin 8) : S128x512.Slices ![0, 64 * h.val] S128x64 := by
  fin_cases h
  · exact slices_S128x512_o0_0_S128x64
  · exact slices_S128x512_o0_64_S128x64
  · exact slices_S128x512_o0_128_S128x64
  · exact slices_S128x512_o0_192_S128x64
  · exact slices_S128x512_o0_256_S128x64
  · exact slices_S128x512_o0_320_S128x64
  · exact slices_S128x512_o0_384_S128x64
  · exact slices_S128x512_o0_448_S128x64
/-- One head: its columns of the scaled queries against its keys and values. -/
def head (qs : FVec F S128x512 .bf16) (h : Fin 8) (k v : Vec F S2048x64 .bf16) : FVec F S128x64 .f32 :=
  k0_pay8 (extractStridedSlice S128x64 ![0, 64 * h.val] qs (head_slices h)) k v

/-- One batch entry: eight heads side by side, times the output weights. -/
def attn (qs : FVec F S128x512 .bf16) (k v : Fin 8 → Vec F S2048x64 .bf16) (wo : Vec F S512x512 .f32) : FVec F S1x128x512 .f32 :=
  shapeCast S1x128x512
    (matmul dot_S128x512_S512x512_S128x512_1_0_0_1_n_n none
      (concatenate S128x512 1 [⟨S128x64, head qs 0 (k 0) (v 0)⟩, ⟨S128x64, head qs 1 (k 1) (v 1)⟩, ⟨S128x64, head qs 2 (k 2) (v 2)⟩, ⟨S128x64, head qs 3 (k 3) (v 3)⟩,
        ⟨S128x64, head qs 4 (k 4) (v 4)⟩, ⟨S128x64, head qs 5 (k 5) (v 5)⟩, ⟨S128x64, head qs 6 (k 6) (v 6)⟩, ⟨S128x64, head qs 7 (k 7) (v 7)⟩]
        concatenates_S128x64_S128x64_S128x64_S128x64_S128x64_S128x64_S128x64_S128x64_S128x512_d1)
      (shapeCast S512x512 wo shapeCasts_S512x512_S512x512) (constant S128x512 .f32 0x00000000#32))
    shapeCasts_S128x512_S1x128x512

def out0 (c : Dev nD) : FVec F S1x128x512 .f32 :=
  attn (k0_pay5 (xLd m ![0, 0, 0] inb_S2x128x512_S1x128x512_0_0_0 c) (wqLd m c)) (col m 0) (col m 1) (woLd m c)
def out1 (c : Dev nD) : FVec F S1x128x512 .f32 :=
  attn (k0_pay6 (xLd m ![1, 0, 0] inb_S2x128x512_S1x128x512_1_0_0 c) (wqLd m c)) (col m 2) (col m 3) (woLd m c)

theorem pay20_eq (qs : FVec F S128x512 .bf16) (k v : Fin 8 → Vec F S2048x64 .bf16) (wo : Vec F S512x512 .f32) :
    k0_pay20 (k0_pay8 (k0_pay7 qs) (k 0) (v 0)) (k0_pay9 qs (k 1) (v 1)) (k0_pay12 (k0_pay10 qs (k 2)) (k0_pay11 qs (k 2)) (v 2)) (k0_pay13 qs (k 3) (v 3))
      (k0_pay14 qs (k 4) (v 4)) (k0_pay16 (k0_pay15 qs) (k 5) (v 5)) (k0_pay17 qs (k 6) (v 6)) (k0_pay18 qs (k 7)) (k0_pay19 qs (k 7)) (v 7) wo
      = attn qs k v wo := rfl
theorem pay30_eq (qs : FVec F S128x512 .bf16) (k v : Fin 8 → Vec F S2048x64 .bf16) (wo : Vec F S512x512 .f32) :
    k0_pay30 qs (k0_pay21 qs (k 0) (v 0)) (k0_pay23 (k0_pay22 qs (k 1)) (v 1)) (k0_pay24 qs (k 2) (v 2)) (k0_pay25 qs (k 3) (v 3))
      (k0_pay27 (k0_pay26 qs) (k 4) (v 4)) (k0_pay28 qs (k 5) (v 5)) (k0_pay29 qs (k 6)) (v 6) (k 7) (v 7) wo
      = attn qs k v wo := rfl

abbrev oM : Memref sig .tc .vmem S2x128x512 .f32 := Memref.whole cc0_stg5_0
abbrev o0R : Rect S2x128x512 := Rect.unit (s := S2x128x512) ![0, 0, 0] S1x128x512.size inb_S2x128x512_S1x128x512_0_0_0
abbrev o1R : Rect S2x128x512 := Rect.unit (s := S2x128x512) ![1, 0, 0] S1x128x512.size inb_S2x128x512_S1x128x512_1_0_0

/-- The output block: batch entry 0, then batch entry 1. -/
def outAt (c : Dev nD) : (cc0_stg5_0 : Ref sig .tc).ty.Contents (Elt F) := fun i : S2x128x512.Idx =>
  if (i 0).val = 0 then out0 m c (ix3 0 (i 1) (i 2)) else out1 m c (ix3 0 (i 1) (i 2))

end Cert.KernelIdeal.Ring

end
-- ==== Proof.Ideal.Run.lean ====
/-
The kernel's body on one device, from what it starts with to what it leaves.
-/
module

public import proofs.«01_k».proof.Proof.Ideal.Pieces
public import proofs.«01_k».proof.Proof.Ideal.Value

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- The point of the grid. -/
abbrev t₀ : Fin cfg0.N := t0_0

/-- What stays with device `c` from the launch: its places at its cells, and the rights to pay its neighbours. -/
def linear (c : Dev nD) : sProp 𝕄 :=
  iprop(atPos ER (barCell c) 0 ∅ 0 ∗ posX (F := F) c 0 ∗ dutyTok ER (barCell (nb false c)) 0 true ∗ dutyTok ER (barCell (nb true c)) 0 false ∗ bigSepL allX (tokX (F := F) c))
def ghost (K : Dev nD × CK → ℕ) (c : Dev nD) : sProp 𝕄 := iprop(records m K ∗ linear (F := F) c)
/-- What device `c` starts from besides its buffer. -/
def creds (c : Dev nD) : sProp 𝕄 := iprop(cred (tallyAt (barCell c) () 2) ∗ bigSepL allX (fun x => cred (tallyAt (recvCell c x) () N)))
def start (c : Dev nD) : sProp 𝕄 := iprop((∃ K, ghost m K c) ∗ creds (F := F) c ∗ levAts L lv)

def kvAny (c : Dev nD) : sProp 𝕄 := iprop(∃ f : Buf (Elt F) ((c : Thread nD τ).loc cc0_scratch0), ((c : Thread nD τ).loc cc0_scratch0) ↦{fullShare} f)
def Φ₀ (c : Dev nD) : sProp 𝕄 := iprop(start m c ∗ kvAny (F := F) c)
def Φ₁ (c : Dev nD) : sProp 𝕄 := iprop(kvAny (F := F) c ∗ bigSep Finset.univ (fun k : Bool × X => semVal (kcell (c, some k)) 0) ∗ semVal (barCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => wqstg m c
    | ⟨2, _⟩ => wostg m c
    | ⟨3, _⟩ => kstg m c
    | ⟨4, _⟩ => vstg m c
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The output's two stores -/

theorem out_emb (o : Fin 3 → ℕ) (h : ∀ a, o a + S1x128x512.size a ≤ S2x128x512.size a) (j : S1x128x512.Idx) (a : Fin 3) :
    (((oM.slice (Rect.unit (s := S2x128x512) o S1x128x512.size h) (fun _ => rfl)).view.emb j : S2x128x512.Idx) a).val = o a + (j a).val :=
  ValueKit.view_emb_slice_whole_unit_val _ _ _ _ _ _

theorem write_out (f : (cc0_stg5_0 : Ref sig .tc).ty.Contents (Elt F)) (c : Dev nD) :
    (oM.access o1R : View sig .tc _ _ _).write (Elt F) ((oM.access o0R : View sig .tc _ _ _).write (Elt F) f (out0 m c) Finset.univ) (out1 m c) Finset.univ = outAt m c := by
  show (oM.slice o1R (fun _ => rfl)).view.write (Elt F) ((oM.slice o0R (fun _ => rfl)).view.write (Elt F) f (out0 m c) Finset.univ) (out1 m c) Finset.univ = outAt m c
  funext (i : S2x128x512.Idx)
  have hi : (i 0).val < 2 := (i 0).isLt
  unfold outAt
  by_cases h : (i 0).val = 0
  · rw [if_pos h]
    have hn : i ∉ (oM.slice o1R (fun _ => rfl)).view.setOn Finset.univ := fun hm => by
      obtain ⟨j, -, e⟩ := Finset.mem_map.mp hm
      have := out_emb ![1, 0, 0] inb_S2x128x512_S1x128x512_1_0_0 j 0
      have e' := congrArg (fun t : S2x128x512.Idx => (t 0).val) e
      have : (i 0).val = 1 + (j 0).val := e'.symm.trans this
      omega
    have e : ((oM.slice o0R (fun _ => rfl)).view.emb (ix3 (n0 := 1) (n1 := 128) (n2 := 512) 0 (i 1) (i 2)) : S2x128x512.Idx) = i := by
      funext a
      refine Fin.ext ((out_emb ![0, 0, 0] inb_S2x128x512_S1x128x512_0_0_0 _ a).trans ?_)
      fin_cases a
      · exact h.symm
      · exact Nat.zero_add _
      · exact Nat.zero_add _
    refine (View.write_of_not_mem (v := (oM.slice o1R (fun _ => rfl)).view) _ _ _ hn).trans ?_
    conv_lhs => rw [← e]
    exact View.write_emb_of_mem (v := (oM.slice o0R (fun _ => rfl)).view) _ _ (Finset.mem_univ _)
  · rw [if_neg h]
    have e : ((oM.slice o1R (fun _ => rfl)).view.emb (ix3 (n0 := 1) (n1 := 128) (n2 := 512) 0 (i 1) (i 2)) : S2x128x512.Idx) = i := by
      funext a
      refine Fin.ext ((out_emb ![1, 0, 0] inb_S2x128x512_S1x128x512_1_0_0 _ a).trans ?_)
      fin_cases a
      · show 1 + 0 = (i 0).val; omega
      · exact Nat.zero_add _
      · exact Nat.zero_add _
    conv_lhs => rw [← e]
    exact View.write_emb_of_mem (v := (oM.slice o1R (fun _ => rfl)).view) _ _ (Finset.mem_univ _)

/-! ## The body -/

abbrev xM' : Memref sig .tc .vmem S2x128x512 .f32 := Memref.whole cc0_stg0_0
abbrev wqM : Memref sig .tc .vmem S512x512 .f32 := Memref.whole cc0_stg1_0
abbrev woM : Memref sig .tc .vmem S512x512 .f32 := Memref.whole cc0_stg2_0

theorem own_off1 (c : Dev nD) : k0_off1 c = off (rp c) 0 := by revert c; decide +kernel
theorem own_off2 (c : Dev nD) : k0_off2 c = off (rp c) 1 := by revert c; decide +kernel
theorem own_off3 (c : Dev nD) : k0_off3 c = off (rp c) 2 := by revert c; decide +kernel
theorem own_off4 (c : Dev nD) : k0_off4 c = off (rp c) 3 := by revert c; decide +kernel

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds (F := F) c ∗ levAts L lv ∗ kvAny (F := F) c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ ∗ stg c cc0_stg0_0 (xstg m c) ∗ stg c cc0_stg1_0 (wqstg m c) ∗ stg c cc0_stg2_0 (wostg m c)
    ∗ stg c cc0_stg3_0 (kstg m c) ∗ stg c cc0_stg4_0 (vstg m c) ∗ stg c cc0_stg5_0 (outAt m c))

theorem passB_out (c : Dev nD) :
    bigSepL allX (passB m c) ⊢ iprop(bigSepL allX (fun x => atPos ER (recvCell c x) 1 ∅ 0)
      ∗ bigSepL allX (fun x => pcs c (dstSlot c x) x.2.2 (fullShare : PosShare TreeShare).left (kvAll m))
      ∗ bigSepL allX (fun x => if fwd x then cred (tallyAt (sendCell c (nx x)) () N) else iprop(emp))
      ∗ bigSepL allX (fun x => if fwd x then iprop(emp) else pcs c (dstSlot c x) x.2.2 (fullShare : PosShare TreeShare).right (kvAll m))) :=
  Entails.of_eq (by unfold passB; rw [bigSepL_sep, bigSepL_sep, bigSepL_test])

theorem kv_whole (c : Dev nD) :
    iprop((((c : Thread nD τ).loc cc0_scratch0) ↦{(fullShare : PosShare TreeShare).left} kvAll m) ∗ bigSepL firstX (sendPay m c)
        ∗ bigSepL allX (fun x => pcs c (dstSlot c x) x.2.2 (fullShare : PosShare TreeShare).right (kvAll m)))
      ⊢ (((c : Thread nD τ).loc cc0_scratch0) ↦{fullShare} kvAll m : sProp 𝕄) := by
  have h : bigSepL allX (fun x => pcs c (dstSlot c x) x.2.2 fullShare (kvAll m))
      = iprop(bigSepL allX (fun x => pcs c (dstSlot c x) x.2.2 (fullShare : PosShare TreeShare).left (kvAll m))
        ∗ bigSepL allX (fun x => pcs c (dstSlot c x) x.2.2 (fullShare : PosShare TreeShare).right (kvAll m))) := by
    rw [← bigSepL_sep]; exact congrArg (bigSepL allX) (funext fun x => pcs_share c _ _ _ _)
  rw [kv_pieces c fullShare (kvAll m), kv_pieces c (fullShare : PosShare TreeShare).left (kvAll m), own_split, h]
  iintro ⟨⟨H1, H2⟩, H3, H4⟩
  isplitl [H1 H3]
  · isplitl [H1] <;> iassumption
  isplitl [H2] <;> iassumption

theorem bar_mem (c : Dev nD) (d : Bool) : d ∈ (ringRd (F := F) m).duties ((c : Thread nD τ), SemLoc.reg barS) 0 := by
  rw [show (ringRd (F := F) m).duties ((c : Thread nD τ), SemLoc.reg barS) 0 = Finset.univ from duties_bar m c]; exact Finset.mem_univ d
theorem bar_give (c : Dev nD) (d : Bool) : barPay (F := F) c d ⊢ (ringRd (F := F) m).payload ((c : Thread nD τ), SemLoc.reg barS) 0 d :=
  Entails.of_eq (payload_bar m c d).symm
theorem bar_take (c : Dev nD) :
    bigSep ((ringRd (F := F) m).duties ((c : Thread nD τ), SemLoc.reg barS) 0 \ ∅) (fun d => (ringRd (F := F) m).payload ((c : Thread nD τ), SemLoc.reg barS) 0 d)
      ⊢ bigSepL allX (slotAt (F := F) c) :=
  Entails.of_eq ((rest_bar m c).trans (bigSepL_dir (slotAt (F := F) c)).symm)

set_option maxHeartbeats 2000000 in
/-- The body, run from its first effect to its last: the own slot's four stores, the handshake, the first copies, the landings
    passed on in turn, the attention read from the whole buffer, and the waits for the sends. -/
theorem sound_body (c : Dev nD) (Kt : PUnit → sProp 𝕄) :
    iprop(bodyPre m ρ K c ∗ (bodyPost m ρ c -∗ Kt ⟨⟩))
      ⊢ run c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _) (Memref.whole cc0_stg4_0) (Memref.isWhole_whole _)
          (Memref.whole cc0_stg5_0) (Memref.isWhole_whole _) (Memref.whole cc0_scratch0) (Memref.isWhole_whole _) cc0_scratch1 cc0_scratch2 cc0_scratch3 cc0_scratch4) Kt := by
  simp only [cc0_body_eq_skeleton]; unfold cc0_body_skel
  simp only [k0_part66_eq_skeleton]
  unfold k0_part66_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton, k0_part27_eq_skeleton, k0_part28_eq_skeleton,
    k0_part29_eq_skeleton, k0_part30_eq_skeleton, k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton, k0_part49_eq_skeleton,
    k0_part50_eq_skeleton, k0_part51_eq_skeleton, k0_part52_eq_skeleton, k0_part53_eq_skeleton, k0_part54_eq_skeleton, k0_part55_eq_skeleton, k0_part56_eq_skeleton,
    k0_part57_eq_skeleton, k0_part58_eq_skeleton, k0_part59_eq_skeleton, k0_part60_eq_skeleton, k0_part61_eq_skeleton, k0_part62_eq_skeleton, k0_part63_eq_skeleton,
    k0_part64_eq_skeleton, k0_part65_eq_skeleton]
  simp only [k0_part1_skel, k0_part2_skel, k0_part3_skel, k0_part4_skel, k0_part5_skel, k0_part6_skel, k0_part7_skel, k0_part8_skel, k0_part9_skel, k0_part10_skel,
    k0_part11_skel, k0_part12_skel, k0_part13_skel, k0_part14_skel, k0_part15_skel, k0_part16_skel, k0_part17_skel, k0_part18_skel, k0_part19_skel, k0_part20_skel, k0_part21_skel,
    k0_part22_skel, k0_part23_skel, k0_part24_skel, k0_part25_skel, k0_part26_skel, k0_part27_skel, k0_part28_skel, k0_part29_skel, k0_part30_skel, k0_part31_skel, k0_part32_skel,
    k0_part33_skel, k0_part34_skel, k0_part35_skel, k0_part36_skel, k0_part37_skel, k0_part38_skel, k0_part39_skel, k0_part40_skel, k0_part41_skel, k0_part42_skel, k0_part43_skel,
    k0_part44_skel, k0_part45_skel, k0_part46_skel, k0_part47_skel, k0_part48_skel, k0_part49_skel, k0_part50_skel, k0_part51_skel, k0_part52_skel, k0_part53_skel, k0_part54_skel,
    k0_part55_skel, k0_part56_skel, k0_part57_skel, k0_part58_skel, k0_part59_skel, k0_part60_skel, k0_part61_skel, k0_part62_skel, k0_part63_skel, k0_part64_skel, k0_part65_skel,
    semSignalWord, semWaitWord, Prog.lift, Prog.bind_op, Prog.bind_ret, Prog.pure_eq_ret, wp_deviceId]
  unfold bodyPre ghost linear creds kvAny
  iintro ⟨⟨⟨⟨#HR, HaB, HaX, HtP, HtN, HtX⟩, ⟨HcB, HcX⟩, #HL, ⟨%f0, Hkv⟩⟩,
    Ho, ⟨%d0, %g0, %hg0, Hx⟩, ⟨%d1, %g1, %hg1, Hwq⟩, ⟨%d2, %g2, %hg2, Hwo⟩, ⟨%d3, %g3, %hg3, HK⟩, ⟨%d4, %g4, %hg4, HV⟩, ⟨%d5, %g5, %hg5, Hout⟩⟩, Hk⟩
  have hx0 : g0 = xstg m c := by rw [hg0]; unfold Dat.before; rw [if_pos (fetch0_0 t₀)]; rfl
  have hx1 : g1 = wqstg m c := by rw [hg1]; unfold Dat.before; rw [if_pos (fetch0_1 t₀)]; rfl
  have hx2 : g2 = wostg m c := by rw [hg2]; unfold Dat.before; rw [if_pos (fetch0_2 t₀)]; rfl
  have hx3 : g3 = kstg m c := by rw [hg3]; unfold Dat.before; rw [if_pos (fetch0_3 t₀)]; rfl
  have hx4 : g4 = vstg m c := by rw [hg4]; unfold Dat.before; rw [if_pos (fetch0_4 t₀)]; rfl
  subst hx0 hx1 hx2 hx3 hx4
  unfold Dat.owesAt Pipeline.owesWithin
  icases Ho with ⟨%W, %hW, HO⟩
  rw [show (dats m ρ 0 c).owed t₀.castSucc = O₀ c from rfl]
  -- the device's own slot, quarter by quarter
  ihave Hkv := (Entails.of_eq (kv_pieces c fullShare f0)) $$ Hkv
  icases Hkv with ⟨Hown, Hland⟩
  ihave Hown := (Entails.of_eq (show bigSepL [0, 1, 2, 3] (fun q : Fin 4 => pcs c (rp c) q fullShare f0)
    = iprop(pcs c (rp c) 0 fullShare f0 ∗ pcs c (rp c) 1 fullShare f0 ∗ pcs c (rp c) 2 fullShare f0 ∗ pcs c (rp c) 3 fullShare f0) from rfl)) $$ Hown
  icases Hown with ⟨H0, H1, H2, H3⟩
  iapply (wp_load 𝒱₀ (c : Thread nD τ) none Set.univ (m := kM) (Finset.subset_univ _)) $$ HK; iintro HK
  iapply (run_own m Kt c 0 _ _ (own_off1 c) _ rfl f0 _) $$ H0; iintro H0
  iapply (wp_load 𝒱₀ (c : Thread nD τ) none Set.univ (m := vM) (Finset.subset_univ _)) $$ HV; iintro HV
  iapply (run_own m Kt c 1 _ _ (own_off2 c) _ rfl f0 _) $$ H1; iintro H1
  iapply (wp_load 𝒱₀ (c : Thread nD τ) none Set.univ (m := kM) (Finset.subset_univ _)) $$ HK; iintro HK
  iapply (run_own m Kt c 2 _ _ (own_off3 c) _ rfl f0 _) $$ H2; iintro H2
  iapply (wp_load 𝒱₀ (c : Thread nD τ) none Set.univ (m := vM) (Finset.subset_univ _)) $$ HV; iintro HV
  iapply (run_own m Kt c 3 _ _ (own_off4 c) _ rfl f0 _) $$ H3; iintro H3
  ihave Hown := (Entails.of_eq (show iprop(pcs c (rp c) 0 fullShare (kvAll m) ∗ pcs c (rp c) 1 fullShare (kvAll m) ∗ pcs c (rp c) 2 fullShare (kvAll m) ∗ pcs c (rp c) 3 fullShare (kvAll m))
    = bigSepL [0, 1, 2, 3] (fun q : Fin 4 => pcs c (rp c) q fullShare (kvAll m)) from rfl)) $$ [H0 H1 H2 H3]
  · isplitl [H0]; · iexact H0
    isplitl [H1]; · iexact H1
    isplitl [H2] <;> iassumption
  ihave Hown := (Entails.of_eq (own_split m c)) $$ Hown
  icases Hown with ⟨HownL, Hlent⟩
  -- the handshake
  ihave Hland := (land_split c f0) $$ Hland
  icases Hland with ⟨HlN, HlP⟩
  simp only [dev1_eq c, dev2_eq c]
  unfold O₀
  iapply (Rounds.wp_signal 𝒱₀ ER (ringRd m) (c : Thread nD τ) none (dst := (nb false c : Thread nD τ)) (κ := K (nb false c, none))
      (d := true) (bar_mem m _ _) ((amount_bar m (nb false c) true).trans (by decide)) () (O₁ c) rfl)
    $$ [HO HtP HlP]
  · isplitr; · iapply (inv_at m K (nb false c, none)); iexact HR
    isplitl [HO]; · iexact HO
    isplitl [HtP]; · iexact HtP
    isplitl [HlP]; · iapply (bar_give m (nb false c) true); iexact HlP
    iapply (reached_at m K (nb false c, none)); iexact HR
  iintro HO
  unfold O₁
  iapply (Rounds.wp_signal 𝒱₀ ER (ringRd m) (c : Thread nD τ) none (dst := (nb true c : Thread nD τ)) (κ := K (nb true c, none))
      (d := false) (bar_mem m _ _) ((amount_bar m (nb true c) false).trans (by decide)) () (owL c allX) rfl)
    $$ [HO HtN HlN]
  · isplitr; · iapply (inv_at m K (nb true c, none)); iexact HR
    isplitl [HO]; · iexact HO
    isplitl [HtN]; · iexact HtN
    isplitl [HlN]; · iapply (bar_give m (nb true c) false); iexact HlN
    iapply (reached_at m K (nb true c, none)); iexact HR
  iintro HO
  iapply (Rounds.wp_wait_rest_token 𝒱₀ ER (ringRd m) (c : Thread nD τ) none (κ := K (c, none))
      (wpE_semWait_eq 𝒱₀ (c : Thread nD τ) none Set.univ) (Set.mem_univ _) () (O := owL c allX) (W := W) (R := 0) (m := 0) (T := ∅)
      (expect_bar m c).symm) $$ [HcB HO HaB]
  · isplitr; · iapply (inv_at m K (c, none)); iexact HR
    isplitl [HcB]; · iexact HcB
    isplitl [HO]; · iexact HO
    isplitr; · iapply (mayWait_bar c); iexact HL
    iexact HaB
  iintro ⟨HO, HaB, -, Hslots⟩
  ihave Hslots := (bar_take m c) $$ Hslots
  ihave Hsnd := (Entails.of_eq (show iprop(bigSepL allX (tokX (F := F) c) ∗ bigSepL allX (slotAt (F := F) c)) = bigSepL allX (sndRes (F := F) c) from
    (bigSepL_sep allX (tokX (F := F) c) (slotAt (F := F) c)).symm)) $$ [HtX Hslots]
  · isplitl [HtX] <;> iassumption
  ihave Hsnd := (Entails.of_eq (first_pass (sndRes (F := F) c))) $$ Hsnd
  icases Hsnd with ⟨Hs1, Hs2⟩
  -- the first copies
  ihave Hs1 := (Entails.of_eq (bigSepL_sep firstX (sndRes (F := F) c) (sendPay m c)).symm) $$ [Hs1 Hlent]
  · isplitl [Hs1] <;> iassumption
  iapply (run_firsts m K Kt c _)
  isplitr; · iexact HR
  isplitl [Hs1]; · iexact Hs1
  isplitl [HO]; · unfold owesW; iexists _; iexact HO
  iintro ⟨Hc1, HO⟩
  iapply (wp_load 𝒱₀ (c : Thread nD τ) none Set.univ (m := xM') (Finset.subset_univ _)) $$ Hx; iintro Hx
  iapply (wp_load 𝒱₀ (c : Thread nD τ) none Set.univ (m := wqM) (Finset.subset_univ _)) $$ Hwq; iintro Hwq
  iapply (wp_load 𝒱₀ (c : Thread nD τ) none Set.univ (m := xM') (Finset.subset_univ _)) $$ Hx; iintro Hx
  iapply (wp_load 𝒱₀ (c : Thread nD τ) none Set.univ (m := wqM) (Finset.subset_univ _)) $$ Hwq; iintro Hwq
  -- the landings, each passed on
  unfold posX
  icases HaX with ⟨⟨HaV, HaVi⟩, HaS, HaSi⟩
  ihave Hp := (Entails.of_eq (bigSepL_sep allX (fun x => cred (tallyAt (recvCell c x) () N)) (fun x => atPos ER (recvCell c x) 0 ∅ 0)).symm) $$ [HcX HaV]
  · isplitl [HcX] <;> iassumption
  ihave Hp := (Entails.of_eq (bigSepL_sep allX (fun x => iprop(cred (tallyAt (recvCell c x) () N) ∗ atPos ER (recvCell c x) 0 ∅ 0))
    (fun x => if fwd x then sndRes (F := F) c (nx x) else iprop(emp))).symm) $$ [Hp Hs2]
  · isplitl [Hp] <;> iassumption
  iapply (run_passes m K Kt c _)
  isplitr; · isplitr <;> iassumption
  isplitl [Hp]; · unfold passA; iexact Hp
  isplitl [HO]; · iexact HO
  iintro ⟨Hp, HO⟩
  ihave Hp := (passB_out m c) $$ Hp
  icases Hp with ⟨HaV, HdstL, Hc2, Hkeep⟩
  -- the attention, read from the whole buffer at the kept share
  ihave Hkv := (Entails.of_eq (kv_pieces c (fullShare : PosShare TreeShare).left (kvAll m)).symm) $$ [HownL HdstL]
  · isplitl [HownL] <;> iassumption
  iterate 16 (iapply (wp_load 𝒱₀ (c : Thread nD τ) none Set.univ (m := kvM) (Finset.subset_univ _)) $$ Hkv; iintro Hkv)
  iapply (wp_load 𝒱₀ (c : Thread nD τ) none Set.univ (m := woM) (Finset.subset_univ _)) $$ Hwo; iintro Hwo
  iapply (wp_load 𝒱₀ (c : Thread nD τ) none Set.univ (m := oM) (Finset.subset_univ _)) $$ Hout; iintro Hout
  iapply (wp_store 𝒱₀ (c : Thread nD τ) none Set.univ (m := oM) (r := o0R) (Mk := Finset.univ) (Finset.subset_univ _)) $$ Hout; iintro Hout
  iterate 16 (iapply (wp_load 𝒱₀ (c : Thread nD τ) none Set.univ (m := kvM) (Finset.subset_univ _)) $$ Hkv; iintro Hkv)
  iapply (wp_load 𝒱₀ (c : Thread nD τ) none Set.univ (m := woM) (Finset.subset_univ _)) $$ Hwo; iintro Hwo
  iapply (wp_load 𝒱₀ (c : Thread nD τ) none Set.univ (m := oM) (Finset.subset_univ _)) $$ Hout; iintro Hout
  iapply (wp_store 𝒱₀ (c : Thread nD τ) none Set.univ (m := oM) (r := o1R) (Mk := Finset.univ) (Finset.subset_univ _)) $$ Hout; iintro Hout
  -- the waits for the sends
  ihave Hc := (Entails.of_eq (first_pass (fun x => cred (tallyAt (sendCell c x) () N))).symm) $$ [Hc1 Hc2]
  · isplitl [Hc1] <;> iassumption
  ihave Hc := (Entails.of_eq (bigSepL_sep allX (fun x => cred (tallyAt (sendCell c x) () N)) (fun x => atPos ER (sendCell c x) 0 ∅ 0)).symm) $$ [Hc HaS]
  · isplitl [Hc] <;> iassumption
  iapply (run_dones m K Kt c _)
  isplitr; · iexact HR
  isplitl [Hc]; · iexact Hc
  isplitl [HO]; · iexact HO
  iintro ⟨Hd, HO⟩
  ihave Hd := (Entails.of_eq (bigSepL_sep allX (fun x => atPos ER (sendCell c x) 1 ∅ 0) (sendPay m c))) $$ Hd
  icases Hd with ⟨HaS, Hpay⟩
  -- every cell closes
  imod (close_all m K c) $$ [HaV HaVi HaS HaSi] with Hz
  · isplitr; · iexact HR
    unfold posX
    isplitl [HaV HaVi]
    · isplitl [HaV] <;> iassumption
    isplitl [HaS] <;> iassumption
  imod (close_cell m K c none 1 (duties_later m _)) $$ [HaB] with HzB
  · isplitr; · iexact HR
    iexact HaB
  -- the buffer whole again
  ihave Hback := (lent_back m c) $$ [Hpay Hkeep]
  · isplitl [Hpay] <;> iassumption
  icases Hback with ⟨Hlent, HdstR⟩
  ihave Hkv := (kv_whole m c) $$ [Hkv Hlent HdstR]
  · isplitl [Hkv]; · iexact Hkv
    isplitl [Hlent] <;> iassumption
  rw [wp_ret]; imodintro
  iapply Hk
  unfold bodyPost Φ₁ kvAny Dat.owesAt Pipeline.owesWithin owesW
  rw [show (dats m ρ 0 c).owed t₀.succ = 0 from rfl]
  isplitl [Hkv Hz HzB]
  · isplitl [Hkv]; · iexists _; iexact Hkv
    isplitl [Hz] <;> iassumption
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  isplitl [HK]
  · iexists _; isplitr; · (ipureintro; rfl)
    iexact HK
  isplitl [HV]
  · iexists _; isplitr; · (ipureintro; rfl)
    iexact HV
  iexists _; isplitr; · (ipureintro; exact write_out m g5 c)
  iexact Hout

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

def bodyPre' (c : Dev nD) : sProp 𝕄 :=
  iprop(Φ₀ m c
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What the launch asks of the body on each device. -/
theorem body_obligation (c : Dev nD) : BodyObligation (dats (F := F) m ρ 0 c) (defs₀ (F := F)) 𝒱₀ () Set.univ := fun t => by
  rw [show t = t₀ from fin_N0 t]
  rw [bigSep_W, bigSep_W]
  simp only [owns_whole_eq]
  show bodyPre' m ρ c ⊢ run c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scratch4)
    (fun _ => bodyPost m ρ c)
  unfold bodyPre' Φ₀ start
  iintro ⟨⟨⟨⟨%K, Hg⟩, Hc, HL⟩, Hkv⟩, Hrest⟩
  iapply (sound_body m ρ K c fun _ => bodyPost m ρ c)
  unfold bodyPre
  isplitr []
  · isplitl [Hg Hc HL Hkv]
    · isplitl [Hg]; · iexact Hg
      isplitl [Hc]; · iexact Hc
      isplitl [HL] <;> iassumption
    iexact Hrest
  · iintro H; iexact H

end Cert.KernelIdeal.Ring

end
-- ==== Proof.Ideal.Launch.lean ====
/-
The launch of the kernel on the sixteen devices: what each starts with, how the rights to pay are dealt, and the run.
-/
module

public import proofs.«01_k».proof.Proof.Ideal.Run
public import Idealize.ShloMosaic.Lib.Pipeline.Launch
public import Idealize.ShloMosaic.Lib.Pipeline.CollectiveSegs

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small facts -/

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

theorem flip_sep (A B : sProp 𝕄) : iprop(A ∗ B) ⊢ iprop(B ∗ A) := by
  iintro ⟨H1, H2⟩; isplitl [H2] <;> iassumption

theorem sep_flip (A B : sProp 𝕄) : iprop(A ∗ B) = iprop(B ∗ A) := BI.Entails.antisymm (flip_sep A B) (flip_sep B A)

theorem bool_cells (Φ : Bool → sProp 𝕄) : bigSep Finset.univ Φ = iprop(Φ false ∗ Φ true) := by
  rw [bigSep_univ_eq_bigSepL [false, true] (by decide) (by decide), bigSepL_cons', bigSepL_cons', bigSepL_nil]
  exact congrArg (fun R : sProp 𝕄 => iprop(Φ false ∗ R)) (BI.Entails.antisymm (sep_emp (PROP := sProp 𝕄)).1 (sep_emp (PROP := sProp 𝕄)).2)

theorem opt_cells (Φ : CK → sProp 𝕄) : bigSep Finset.univ Φ = iprop(Φ none ∗ bigSep Finset.univ fun k : Bool × X => Φ (some k)) := by
  rw [bigSep_univ_equiv (Equiv.optionEquivSumPUnit (Bool × X)).symm Φ, bigSep_univ_sum]
  rw [show (bigSep Finset.univ fun b : PUnit.{1} => Φ ((Equiv.optionEquivSumPUnit (Bool × X)).symm (Sum.inr b))) = Φ none from by
    rw [show (Finset.univ : Finset PUnit.{1}) = {⟨⟩} from rfl, bigSep_singleton]; rfl]
  exact sep_flip _ _

/-- A chain of conjunctions over the devices, taken the other way around. -/
theorem bigSep_bigSepL (l : List X) (Φ : Dev nD → X → sProp 𝕄) :
    (bigSep Finset.univ fun c : Dev nD => bigSepL l (Φ c)) = bigSepL l (fun x => bigSep Finset.univ fun c : Dev nD => Φ c x) := by
  induction l with
  | nil => rw [bigSepL_nil]; exact BI.bigSep_emp_const _
  | cons x l ih =>
    rw [bigSepL_cons', ← ih, ← bigSep_sep']
    exact bigSep_congr fun c _ => bigSepL_cons' _ _ _

/-! ## The launch's ghost state -/

def ringCells : Finset (GSem nD τ sig) := Finset.univ.map ⟨kcell, kcell_injective⟩

abbrev tokOf (t : Dev nD × Bool × CK) : GSem nD τ sig × ℕ × Bool := (kcell (t.1, t.2.2), 0, t.2.1)
theorem tokOf_injective : Function.Injective (tokOf : Dev nD × Bool × CK → GSem nD τ sig × ℕ × Bool) := by
  rintro ⟨c, b, k⟩ ⟨c', b', k'⟩ h
  have h1 := kcell_injective (congrArg Prod.fst h)
  have h2 : b = b' := congrArg (fun t : GSem nD τ sig × ℕ × Bool => t.2.2) h
  cases h1; subst h2; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The rights to pay device `c`'s cells. -/
def toks (c : Dev nD) : sProp 𝕄 := bigSep Finset.univ fun b : Bool => bigSep Finset.univ fun k : CK => dutyTok ER (kcell (c, k)) 0 b

def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks (F := F) c)
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun k : Bool × X => semVal (kcell (c, some k)) 0 := rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  ihave Hv := (Entails.of_eq (opt_cells (F := F) (fun k => semVal (kcell (c, k)) 0)).symm) $$ [Hos Hus]
  · isplitl [Hus] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The rights dealt around the ring -/

def payToks (c : Dev nD) : sProp 𝕄 :=
  iprop(dutyTok ER (barCell (nb false c)) 0 true ∗ dutyTok ER (barCell (nb true c)) 0 false ∗ bigSepL allX (tokX (F := F) c))

theorem toks_some (c : Dev nD) : toks (F := F) c ⊢ iprop(dutyTok ER (barCell c) 0 true ∗ dutyTok ER (barCell c) 0 false
    ∗ bigSepL allX (fun x => dutyTok ER (sendCell c x) 0 false) ∗ bigSepL allX (fun x => dutyTok ER (recvCell c x) 0 false)) := by
  unfold toks
  rw [bool_cells (F := F), opt_cells, opt_cells, xfer_cells]
  iintro ⟨⟨H1, ⟨H2, -⟩, H3, -⟩, H4, -⟩
  isplitl [H4]; · iexact H4
  isplitl [H1]; · iexact H1
  isplitl [H3] <;> iassumption

theorem toks_around : (bigSep Finset.univ fun c : Dev nD => (toks c : sProp 𝕄)) ⊢ bigSep Finset.univ fun c : Dev nD => payToks c := by
  refine (bigSep_mono fun c _ => toks_some c).trans ?_
  unfold payToks tokX
  simp only [bigSepL_sep]
  rw [bigSep_sep', bigSep_sep', bigSep_sep', bigSep_sep', bigSep_sep', bigSep_sep',
    bigSep_univ_equiv (around false) (fun c : Dev nD => (dutyTok ER (barCell c) 0 true : sProp 𝕄)),
    bigSep_univ_equiv (around true) (fun c : Dev nD => (dutyTok ER (barCell c) 0 false : sProp 𝕄)),
    bigSep_bigSepL allX (fun c x => (dutyTok ER (recvCell c x) 0 false : sProp 𝕄)),
    bigSep_bigSepL allX (fun c x => (dutyTok ER (recvCell (nb x.1 c) x) 0 false : sProp 𝕄)),
    show (fun x : X => bigSep Finset.univ fun c : Dev nD => (dutyTok ER (recvCell c x) 0 false : sProp 𝕄))
      = fun x : X => bigSep Finset.univ fun c : Dev nD => (dutyTok ER (recvCell (nb x.1 c) x) 0 false : sProp 𝕄) from
      funext fun x => bigSep_univ_equiv (around x.1) (fun c : Dev nD => (dutyTok ER (recvCell c x) 0 false : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) : iprop((bigSep Finset.univ fun k : CK => atPos ER (kcell (c, k)) 0 ∅ 0) ∗ payToks (F := F) c) ⊢ linear (F := F) c := by
  unfold payToks linear posX
  rw [opt_cells, xfer_cells]
  iintro ⟨⟨H1, H2⟩, H3⟩
  isplitl [H1]; · iexact H1
  isplitl [H2] <;> iassumption

theorem regroup :
    (bigSep Finset.univ fun c : Dev nD => iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (bigSep_with_persistent (R := records m K) (Φ := linear (F := F)) fun c _ => show iprop(records m K ∗ linear (F := F) c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem launch_copies (l : List X) (c : Dev nD) :
    (Pipeline.launchCred (fun d => owL d l) c : sProp 𝕄) ⊢ bigSepL l (fun x => cred (tallyAt (recvCell c x) () N)) := by
  induction l with
  | nil => rw [bigSepL_nil]; exact Entails.of_eq (Pipeline.launchCred_zero c)
  | cons x l ih =>
    rw [bigSepL_cons', show (fun d => owL d (x :: l)) = (fun d => owL d l + tallyAt (recvCell (nb x.1 d) x) () N) from rfl, Pipeline.launchCred_add]
    iintro ⟨H1, H2⟩
    isplitl [H2]
    · iapply (Pipeline.launchCred_tallyAt (csem (some (true, x))) (nb x.1) (nb (!x.1)) (nb_nb' x.1) (nb_nb x.1) () N c); iexact H2
    iapply ih; iexact H1

theorem launch_bar (d : Bool) (c : Dev nD) : (Pipeline.launchCred (fun e => tallyAt (barCell (nb d e)) () 1) c : sProp 𝕄) ⊢ cred (tallyAt (barCell c) () 1) :=
  Pipeline.launchCred_tallyAt (csem none) (nb d) (nb (!d)) (nb_nb' d) (nb_nb d) () 1 c

theorem creds_intro (c : Dev nD) : (Pipeline.launchCred O₀ c : sProp 𝕄) ⊢ creds (F := F) c := by
  rw [show (O₀ : Dev nD → CellTallies nD τ sig Unit) = (fun d => O₁ d + tallyAt (barCell (nb false d)) () 1) from rfl, Pipeline.launchCred_add,
    show (O₁ : Dev nD → CellTallies nD τ sig Unit) = (fun d => owL d allX + tallyAt (barCell (nb true d)) () 1) from rfl, Pipeline.launchCred_add]
  unfold creds
  iintro ⟨⟨H1, H2⟩, H3⟩
  ihave H2 := (launch_bar (F := F) true c) $$ H2
  ihave H3 := (launch_bar (F := F) false c) $$ H3
  isplitl [H2 H3]
  · iapply (show iprop(cred (tallyAt (barCell c) () 1) ∗ cred (tallyAt (barCell c) () 1)) ⊢ (cred (tallyAt (barCell c) () 2) : sProp 𝕄) from
      (cred_add _ _).2.trans (Entails.of_eq (congrArg cred (tallyAt_add (barCell c) () 1 1))))
    isplitl [H2] <;> iassumption
  iapply (launch_copies (F := F) allX c); iexact H1

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = kvAny (F := F) c from scopedRest0_eq c]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, show (Pipeline.scopedRest cfg0.spec c : sProp 𝕄) = kvAny (F := F) c from scopedRest0_eq c,
    ownSems0_eq, unscopedSems0_eq]
  unfold Φ₁
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the sixteen devices terminates, with each array at
    what the body leaves in it and every semaphore counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Ideal.Final.lean ====
/-
What the run leaves: the output block on each device, the arguments unchanged, every counter at zero.
-/
module

public import proofs.«01_k».proof.Proof.Ideal.Launch
public import Idealize.ShloMosaic.Lib.Pipeline.ValueKit.Geometry

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The one point covers the whole of the output's array. -/
theorem final_out (c : Dev nD) : (dats m ρ 0 c).arrAt 5 cfg0.N = outAt m c := by
  refine (dats m ρ 0 c).arrAt_eq_of_after_last 5 t0_0 (by decide +kernel) _ fun j => ?_
  have e : ∀ k : S2x128x512.Idx, (cfg0.win 5).arr.view.emb k = k := fun k => rfl
  rw [e j]
  rfl

/-- The argument arrays end as they were. -/
theorem final_in (c : Dev nD) (w : Fin cfg0.W) (hw : (cfg0.win w).isOut = false) : (dats m ρ 0 c).arrAt w cfg0.N = (st₀ m ρ).mem ((cfg0.win w).arr.view.loc (c : Thread nD τ)) :=
  (dats m ρ 0 c).arrAt_in w hw _

/-- The whole run: the result, the arguments and the counters. -/
theorem run_full : θ_run defs (onTc (τ := τ) (main (F := F))) ⟨m, fun _ => 0, ρ⟩ fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun _ h => ⟨fun c => ⟨(h.1 c 5).trans (final_out m ρ c), (h.1 c 0).trans (final_in m ρ c 0 rfl), (h.1 c 1).trans (final_in m ρ c 1 rfl),
    (h.1 c 3).trans (final_in m ρ c 3 rfl), (h.1 c 4).trans (final_in m ρ c 4 rfl), (h.1 c 2).trans (final_in m ρ c 2 rfl)⟩, h.2⟩) (run_main m ρ)

end Cert.KernelIdeal.Ring

end
-- ==== Proof.Math.Soft.lean ====
/-
The softmax average over the extended reals: its value does not depend on the order of the keys, and taking the keys in two
chunks with a running maximum gives the same.
-/
module

public import Idealize.ShloMosaic.PureOps.Ideal
public import Idealize.ShloMosaic.PureOps.Ideal.Laws

@[expose] public section

noncomputable section

namespace Cert.Soft

open Idealize.ShloMosaic

theorem exp_nonneg (x : EReal) : 0 ≤ Ideal.exp x := by
  induction x using EReal.rec with
  | bot => simp
  | top => simp
  | coe r => rw [Ideal.exp_coe]; exact EReal.coe_nonneg.mpr (Real.exp_pos r).le

theorem exp_ne_top {x : EReal} (h : x ≠ ⊤) : Ideal.exp x ≠ ⊤ := by
  induction x using EReal.rec with
  | bot => simp
  | top => exact absurd rfl h
  | coe r => rw [Ideal.exp_coe]; exact EReal.coe_ne_top _

theorem sub_top (x : EReal) : x - ⊤ = ⊥ := by rw [sub_eq_add_neg, EReal.neg_top, EReal.add_bot]
theorem bot_sub (x : EReal) : ⊥ - x = ⊥ := by rw [sub_eq_add_neg, EReal.bot_add]

theorem sub_ne_top {a b : EReal} (h : a ≤ b) : a - b ≠ ⊤ := by
  induction b using EReal.rec with
  | bot => rw [le_bot_iff.mp h, bot_sub]; exact bot_ne_top
  | top => rw [sub_top]; exact bot_ne_top
  | coe y =>
    induction a using EReal.rec with
    | bot => rw [bot_sub]; exact bot_ne_top
    | top => exact absurd (top_le_iff.mp h) (EReal.coe_ne_top y)
    | coe x => rw [← EReal.coe_sub]; exact EReal.coe_ne_top _

/-- Changing the reference point of an exponential. -/
theorem exp_mul {s a b : EReal} (hs : s ≤ a) (hab : a ≤ b) : Ideal.exp (s - a) * Ideal.exp (a - b) = Ideal.exp (s - b) := by
  induction b using EReal.rec with
  | bot =>
    rw [le_bot_iff.mp hab] at hs ⊢
    rw [le_bot_iff.mp hs, bot_sub, Ideal.exp_bot, mul_zero]
  | top => rw [sub_top, sub_top, Ideal.exp_bot, mul_zero]
  | coe z =>
    induction a using EReal.rec with
    | bot => rw [le_bot_iff.mp hs, bot_sub, bot_sub, Ideal.exp_bot, mul_zero]
    | top => exact absurd (top_le_iff.mp hab) (EReal.coe_ne_top z)
    | coe y =>
      induction s using EReal.rec with
      | bot => rw [bot_sub, bot_sub, Ideal.exp_bot, zero_mul]
      | top => exact absurd (top_le_iff.mp hs) (EReal.coe_ne_top y)
      | coe x =>
        rw [← EReal.coe_sub, ← EReal.coe_sub, ← EReal.coe_sub, Ideal.exp_coe, Ideal.exp_coe, Ideal.exp_coe, ← EReal.coe_mul, ← Real.exp_add]
        congr 2; ring

/-- A nonnegative finite factor leaves a sum. -/
theorem sum_mul {I : Type} (S : Finset I) (f : I → EReal) {c : EReal} (h0 : 0 ≤ c) (ht : c ≠ ⊤) : (∑ i ∈ S, f i) * c = ∑ i ∈ S, f i * c := by
  classical
  induction S using Finset.induction_on with
  | empty => simp
  | insert i S hi ih => rw [Finset.sum_insert hi, Finset.sum_insert hi, EReal.right_distrib_of_nonneg_of_ne_top h0 ht, ih]

/-- A nonnegative finite scale of the queries is one of the scores. -/
theorem scaled_dot {I : Type} [Fintype I] (q k : I → EReal) {c : EReal} (h0 : 0 ≤ c) (ht : c ≠ ⊤) : ∑ i, (q i * c) * k i = (∑ i, q i * k i) * c := by
  rw [sum_mul _ _ h0 ht]
  exact Finset.sum_congr rfl fun i _ => mul_right_comm _ _ _

theorem rescale {I : Type} [Fintype I] (s v : I → EReal) {a b : EReal} (hs : ∀ i, s i ≤ a) (hab : a ≤ b) :
    (∑ i, Ideal.exp (s i - a) * v i) * Ideal.exp (a - b) = ∑ i, Ideal.exp (s i - b) * v i := by
  rw [sum_mul _ _ (exp_nonneg _) (exp_ne_top (sub_ne_top hab))]
  exact Finset.sum_congr rfl fun i _ => by rw [mul_right_comm, exp_mul (hs i) hab]

theorem rescale_one {I : Type} [Fintype I] (s : I → EReal) {a b : EReal} (hs : ∀ i, s i ≤ a) (hab : a ≤ b) :
    (∑ i, Ideal.exp (s i - a)) * Ideal.exp (a - b) = ∑ i, Ideal.exp (s i - b) := by
  rw [sum_mul _ _ (exp_nonneg _) (exp_ne_top (sub_ne_top hab))]
  exact Finset.sum_congr rfl fun i _ => exp_mul (hs i) hab

/-- The largest score. -/
def top {I : Type} [Fintype I] (s : I → EReal) : EReal := Finset.univ.fold max ⊥ s

theorem top_eq {I : Type} [Fintype I] (s : I → EReal) : top s = ⨆ i, s i := (Finset.sup_univ_eq_iSup s)

theorem le_top {I : Type} [Fintype I] (s : I → EReal) (i : I) : s i ≤ top s := by rw [top_eq]; exact le_iSup s i

/-- The average of `v` at the softmax of the scores `s`. -/
def avg {I : Type} [Fintype I] (s v : I → EReal) : EReal :=
  Ideal.div (∑ i, Ideal.exp (s i - top s) * v i) (∑ i, Ideal.exp (s i - top s))

theorem avg_perm {I J : Type} [Fintype I] [Fintype J] (e : I ≃ J) (s v : J → EReal) : avg (fun i => s (e i)) (fun i => v (e i)) = avg s v := by
  have ht : top (fun i => s (e i)) = top s := by rw [top_eq, top_eq]; exact e.iSup_comp (g := s)
  unfold avg
  rw [ht, e.sum_comp (fun j => Ideal.exp (s j - top s) * v j), e.sum_comp (fun j => Ideal.exp (s j - top s))]

theorem top_split {n k : ℕ} (s : Fin (n + k) → EReal) : top s = max (top fun j => s (Fin.castAdd k j)) (top fun j => s (Fin.natAdd n j)) := by
  rw [top_eq, top_eq, top_eq]
  apply le_antisymm
  · refine iSup_le fun i => ?_
    induction i using Fin.addCases with
    | left j => exact le_max_of_le_left (le_iSup (fun j => s (Fin.castAdd k j)) j)
    | right j => exact le_max_of_le_right (le_iSup (fun j => s (Fin.natAdd n j)) j)
  · exact max_le (iSup_le fun j => le_iSup s _) (iSup_le fun j => le_iSup s _)

/-- Two chunks with a running maximum, a running sum and a running product. -/
theorem avg_chunks {n k : ℕ} (s v : Fin (n + k) → EReal) (s₀ v₀ : Fin n → EReal) (s₁ v₁ : Fin k → EReal) (m₁ m₂ : EReal)
    (hs₀ : ∀ j, s₀ j = s (Fin.castAdd k j)) (hs₁ : ∀ j, s₁ j = s (Fin.natAdd n j)) (hv₀ : ∀ j, v₀ j = v (Fin.castAdd k j)) (hv₁ : ∀ j, v₁ j = v (Fin.natAdd n j))
    (h₁ : m₁ = max ⊥ (top s₀)) (h₂ : m₂ = max m₁ (top s₁)) :
    Ideal.div ((0 * Ideal.exp (⊥ - m₁) + ∑ j, v₀ j * Ideal.exp (s₀ j - m₁)) * Ideal.exp (m₁ - m₂) + ∑ j, v₁ j * Ideal.exp (s₁ j - m₂))
      ((0 * Ideal.exp (⊥ - m₁) + ∑ j, Ideal.exp (s₀ j - m₁)) * Ideal.exp (m₁ - m₂) + ∑ j, Ideal.exp (s₁ j - m₂)) = avg s v := by
  obtain rfl : s₀ = fun j => s (Fin.castAdd k j) := funext hs₀
  obtain rfl : s₁ = fun j => s (Fin.natAdd n j) := funext hs₁
  obtain rfl : v₀ = fun j => v (Fin.castAdd k j) := funext hv₀
  obtain rfl : v₁ = fun j => v (Fin.natAdd n j) := funext hv₁
  rw [max_eq_right bot_le] at h₁
  have hle : ∀ j, s (Fin.castAdd k j) ≤ m₁ := fun j => h₁ ▸ le_top (fun j => s (Fin.castAdd k j)) j
  have h12 : m₁ ≤ m₂ := h₂ ▸ le_max_left _ _
  have ht : top s = m₂ := by rw [top_split, h₂, h₁]
  unfold avg
  rw [zero_mul, zero_add, zero_add, rescale_one _ hle h12, ht, Fin.sum_univ_add, Fin.sum_univ_add]
  rw [show (∑ j, v (Fin.castAdd k j) * Ideal.exp (s (Fin.castAdd k j) - m₁)) = ∑ j, Ideal.exp (s (Fin.castAdd k j) - m₁) * v (Fin.castAdd k j) from
      Finset.sum_congr rfl fun j _ => mul_comm _ _,
    show (∑ j, v (Fin.natAdd n j) * Ideal.exp (s (Fin.natAdd n j) - m₂)) = ∑ j, Ideal.exp (s (Fin.natAdd n j) - m₂) * v (Fin.natAdd n j) from
      Finset.sum_congr rfl fun j _ => mul_comm _ _, rescale _ _ hle h12]

end Cert.Soft

end
-- ==== Proof.Math.Stages.lean ====
/-
What the reference computes: its operations by stages, and the result at an index.
-/
module

public import proofs.«01_k».proof.Proof.Gen.ReferenceIdeal.Run
public import proofs.«01_k».proof.Proof.Math.Soft
public import Idealize.ShloMosaic.Lib.Pointwise

@[expose] public section

set_option maxRecDepth 16384

noncomputable section

namespace Cert.ReferenceIdeal.Math

open Cert.ReferenceIdeal Cert.ReferenceIdeal.Gen Idealize.ShloMosaic Idealize.ShloMosaic.TcCoe Idealize.ShloMosaic.StableHlo

/-! ## The stages -/

section Stages
variable {F : FTy → Type} [FloatOps F]

def queries (x : FVec F S2x2048x512 .f32) (w : FVec F S512x512 .f32) : FVec F S2x2048x8x64 .f32 :=
  shapeCast _ (Host.dotGeneral dot_S2x2048x512_S512x512_S2x2048x512_2_0_01_1_n_n none x w) shapeCasts_S2x2048x512_S2x2048x8x64
def scores (q : FVec F S2x2048x8x64 .f32) (k : FVec F S2x1024x8x64 .f32) : FVec F S2x8x2048x1024 .f32 :=
  mulf (Host.dotGeneral dot_S2x2048x8x64_S2x1024x8x64_S2x8x2048x1024_3_3_1_1_02_02 none q k)
    (broadcastInDim S2x8x2048x1024 ![] bcast_S_S2x8x2048x1024 (constant S_ .f32 0x3E000000#32))
def start : FVec F S2x8x2048x1 .f32 := broadcastInDim S2x8x2048x1 ![] bcast_S_S2x8x2048x1 (constant S_ .f32 0xFF800000#32)
def largest (m : FVec F S2x8x2048x1 .f32) (s : FVec F S2x8x2048x1024 .f32) : FVec F S2x8x2048x1 .f32 :=
  maximumf m (broadcastInDim S2x8x2048x1 ![0, 1, 2] bcast_S2x8x2048_S2x8x2048x1_0_1_2
    (Host.reduce FloatOps.maximumf s (constant S_ .f32 0xFF800000#32) reducesTo_S2x8x2048x1024_S2x8x2048_d3 h_S_))
def factor (m m' : FVec F S2x8x2048x1 .f32) : FVec F S2x8x2048x1 .f32 := Host.exp (subf m m')
def weights (s : FVec F S2x8x2048x1024 .f32) (m : FVec F S2x8x2048x1 .f32) : FVec F S2x8x2048x1024 .f32 :=
  Host.exp (subf s (broadcastInDim S2x8x2048x1024 ![0, 1, 2, 3] bcast_S2x8x2048x1_S2x8x2048x1024_0_1_2_3 m))
def total (l a : FVec F S2x8x2048x1 .f32) (p : FVec F S2x8x2048x1024 .f32) : FVec F S2x8x2048x1 .f32 :=
  addf (mulf l a) (broadcastInDim S2x8x2048x1 ![0, 1, 2] bcast_S2x8x2048_S2x8x2048x1_0_1_2
    (Host.reduceAdd p (constant S_ .f32 0x00000000#32) reducesTo_S2x8x2048x1024_S2x8x2048_d3 h_S_))
def spread (a : FVec F S2x8x2048x1 .f32) : FVec F S2x2048x8x64 .f32 :=
  broadcastInDim S2x2048x8x64 ![0, 1, 2, 3] bcast_S2x2048x8x1_S2x2048x8x64_0_1_2_3 (transpose S2x2048x8x1 [0, 2, 1, 3] a transposes_S2x8x2048x1_S2x2048x8x1_0_2_1_3)
def product (o : FVec F S2x2048x8x64 .f32) (a : FVec F S2x8x2048x1 .f32) (v : FVec F S2x1024x8x64 .f32) (p : FVec F S2x8x2048x1024 .f32) : FVec F S2x2048x8x64 .f32 :=
  addf (mulf o (spread a)) (transpose S2x2048x8x64 [0, 3, 1, 2] (Host.dotGeneral dot_S2x1024x8x64_S2x8x2048x1024_S2x8x64x2048_1_3_3_2_02_01 none v p) transposes_S2x8x64x2048_S2x2048x8x64_0_3_1_2)
def zeroO : FVec F S2x2048x8x64 .f32 := broadcastInDim S2x2048x8x64 ![] bcast_S_S2x2048x8x64 (constant S_ .f32 0x00000000#32)
def zeroL : FVec F S2x8x2048x1 .f32 := broadcastInDim S2x8x2048x1 ![] bcast_S_S2x8x2048x1 (constant S_ .f32 0x00000000#32)
def lower (k : FVec F S2x2048x8x64 .f32) : FVec F S2x1024x8x64 .f32 := extractStridedSlice S2x1024x8x64 ![0, 0, 0, 0] k slices_S2x2048x8x64_S2x1024x8x64_0_0_0_0
def upper (k : FVec F S2x2048x8x64 .f32) : FVec F S2x1024x8x64 .f32 := extractStridedSlice S2x1024x8x64 ![0, 1024, 0, 0] k slices_S2x2048x8x64_S2x1024x8x64_0_1024_0_0

/-- The heads' averages, from the queries. -/
def heads (q k v : FVec F S2x2048x8x64 .f32) : FVec F S2x2048x8x64 .f32 :=
  let s₀ := scores q (lower k)
  let s₁ := scores q (upper k)
  let m₁ := largest start s₀
  let m₂ := largest m₁ s₁
  let p₀ := weights s₀ m₁
  let p₁ := weights s₁ m₂
  let a₁ := factor start m₁
  let a₂ := factor m₁ m₂
  Host.divf (product (product zeroO a₁ (lower v) p₀) a₂ (upper v) p₁) (spread (total (total zeroL a₁ p₀) a₂ p₁))

def output (a : FVec F S2x2048x8x64 .f32) (wo : FVec F S512x512 .f32) : FVec F S2x2048x512 .f32 :=
  Host.dotGeneral dot_S2x2048x512_S512x512_S2x2048x512_2_0_01_1_n_n none (shapeCast _ a shapeCasts_S2x2048x8x64_S2x2048x512) wo

theorem res_eq (m : (ℓ : Loc nD τ sig) → Buf (Elt F) ℓ) (c : Dev nD) :
    Value.res_main_v55 m c = output (heads (queries (m ((c.tc : Thread nD τ).loc main_arg0)) (m ((c.tc : Thread nD τ).loc main_arg1)))
      (m ((c.tc : Thread nD τ).loc main_arg2)) (m ((c.tc : Thread nD τ).loc main_arg3))) (m ((c.tc : Thread nD τ).loc main_arg4)) := rfl

end Stages

end Cert.ReferenceIdeal.Math

end
-- ==== Proof.Math.Reference.lean ====
/-
The reference's stages at an index.
-/
module

public import proofs.«01_k».proof.Proof.Math.Stages
public import proofs.«01_k».proof.Proof.Math.Soft
public import Idealize.ShloMosaic.Lib.Pointwise

@[expose] public section

set_option maxRecDepth 16384

noncomputable section

namespace Cert.ReferenceIdeal.Math

open Cert.ReferenceIdeal Cert.ReferenceIdeal.Gen Idealize.ShloMosaic Idealize.ShloMosaic.TcCoe Idealize.ShloMosaic.StableHlo

/-- A maximum over the last of four axes. -/
theorem reduce_largest {a b c n : ℕ} (v : (⟨4, ![a, b, c, n]⟩ : Shape).Idx → EReal) {u : Shape} (w : u.Idx → EReal)
    (h : (⟨4, ![a, b, c, n]⟩ : Shape).ReducesTo [3] ⟨3, ![a, b, c]⟩) (hu : 0 < u.numel) (i : Fin a) (j : Fin b) (k : Fin c) :
    Host.reduce (max : EReal → EReal → EReal) v w h hu (ix3 i j k)
      = (Finset.univ : Finset (Fin n)).fold max (w (Shape.Idx.first hu)) fun l => v (ix4 i j k l) := by
  rw [Host.reduce_eq_fold, h.fold_fiber_r4_a3]
  rfl

theorem bot_word : Ideal.ofBits .f32 0xFF800000#32 = ⊥ := by simp [Ideal.ofBits, Ideal.ieee]
theorem scale_word : Ideal.ofBits .f32 0x3E000000#32 = ((1 / 8 : ℝ) : EReal) := by
  simp [Ideal.ofBits, Ideal.ieee, -EReal.coe_mul]; norm_num

theorem widen_at (f : FVec Ideal S2x8x2048 .f32) (b : Fin 2) (h : Fin 8) (i : Fin 2048) :
    broadcastInDim S2x8x2048x1 ![0, 1, 2] bcast_S2x8x2048_S2x8x2048x1_0_1_2 f (ix4 b h i 0) = f (ix3 b h i) := by
  pointwise []

variable (b : Fin 2) (i : Fin 2048) (h : Fin 8) (d : Fin 64) (n : Fin 512) (j : Fin 1024)

theorem queries_at (x w) : queries (F := Ideal) x w (ix4 b i h d) = ∑ k : Fin 512, x (ix3 b i k) * w (ix2 k ⟨h.val * 64 + d.val, by omega⟩) := by
  pointwise [queries]

theorem scores_at (q k) : scores (F := Ideal) q k (ix4 b h i j) = (∑ e : Fin 64, q (ix4 b i h e) * k (ix4 b j h e)) * Ideal.ofBits .f32 0x3E000000#32 := by
  pointwise [scores]

theorem largest_eq (m s) : largest (F := Ideal) m s (ix4 b h i 0) = max (m (ix4 b h i 0))
    (broadcastInDim S2x8x2048x1 ![0, 1, 2] bcast_S2x8x2048_S2x8x2048x1_0_1_2
      (Host.reduce (max : EReal → EReal → EReal) s (constant (F := Ideal) S_ .f32 0xFF800000#32) reducesTo_S2x8x2048x1024_S2x8x2048_d3 h_S_) (ix4 b h i 0)) := by
  unfold largest
  rw [maximumf_apply, Ideal.maximumf_eq_max]

theorem largest_at (m s) : largest (F := Ideal) m s (ix4 b h i 0) = max (m (ix4 b h i 0)) (Soft.top fun j : Fin 1024 => s (ix4 b h i j)) := by
  rw [largest_eq, widen_at, reduce_largest s _ reducesTo_S2x8x2048x1024_S2x8x2048_d3 h_S_ b h i]
  show max _ ((Finset.univ : Finset (Fin 1024)).fold max (Ideal.ofBits .f32 0xFF800000#32) fun l => s (ix4 b h i l)) = _
  rw [bot_word]; rfl

theorem start_at : start (F := Ideal) (ix4 b h i 0) = ⊥ := by
  pointwise [start]; exact bot_word

theorem factor_at (m m') : factor (F := Ideal) m m' (ix4 b h i 0) = Ideal.exp (m (ix4 b h i 0) - m' (ix4 b h i 0)) := by
  pointwise [factor]

theorem weights_at (s m) : weights (F := Ideal) s m (ix4 b h i j) = Ideal.exp (s (ix4 b h i j) - m (ix4 b h i 0)) := by
  pointwise [weights]

theorem total_at (l a p) : total (F := Ideal) l a p (ix4 b h i 0) = l (ix4 b h i 0) * a (ix4 b h i 0) + ∑ j : Fin 1024, p (ix4 b h i j) := by
  pointwise [total]

theorem spread_at (a) : spread (F := Ideal) a (ix4 b i h d) = a (ix4 b h i 0) := by
  pointwise [spread]

theorem product_at (o a v p) : product (F := Ideal) o a v p (ix4 b i h d) = o (ix4 b i h d) * a (ix4 b h i 0) + ∑ j : Fin 1024, v (ix4 b j h d) * p (ix4 b h i j) := by
  pointwise [product, spread]

theorem zeroO_at : zeroO (F := Ideal) (ix4 b i h d) = 0 := by
  pointwise [zeroO]
theorem zeroL_at : zeroL (F := Ideal) (ix4 b h i 0) = 0 := by
  pointwise [zeroL]

theorem lower_at (k) : lower (F := Ideal) k (ix4 b j h d) = k (ix4 b (Fin.castAdd 1024 j : Fin (1024 + 1024)) h d) := by
  pointwise [lower]; rfl
theorem upper_at (k) : upper (F := Ideal) k (ix4 b j h d) = k (ix4 b (Fin.natAdd 1024 j : Fin (1024 + 1024)) h d) := by
  pointwise [upper]; rfl

theorem output_at (a wo) : output (F := Ideal) a wo (ix3 b i n) = ∑ k : Fin 512, a (ix4 b i ⟨k.val / 64, by omega⟩ ⟨k.val % 64, by omega⟩) * wo (ix2 k n) := by
  pointwise [output]

theorem quotient_at (o l : FVec Ideal S2x2048x8x64 .f32) : Host.divf o l (ix4 b i h d) = Ideal.div (o (ix4 b i h d)) (l (ix4 b i h d)) := by
  pointwise []

/-! ## The reference at an index -/

/-- A head's scores of query `i` against the keys. -/
def score (q k : FVec Ideal S2x2048x8x64 .f32) (b : Fin 2) (i : Fin 2048) (h : Fin 8) (j : Fin 2048) : EReal :=
  (∑ e : Fin 64, q (ix4 b i h e) * k (ix4 b j h e)) * Ideal.ofBits .f32 0x3E000000#32

theorem heads_at (q k v) : heads (F := Ideal) q k v (ix4 b i h d) = Soft.avg (score q k b i h) (fun j : Fin 2048 => v (ix4 b j h d)) := by
  unfold heads
  simp only [quotient_at, product_at, spread_at, total_at, weights_at, factor_at, zeroO_at, zeroL_at, start_at]
  exact Soft.avg_chunks (n := 1024) (k := 1024) (score q k b i h) (fun j : Fin 2048 => v (ix4 b j h d)) (fun j => scores q (lower k) (ix4 b h i j)) (fun j => lower v (ix4 b j h d))
    (fun j => scores q (upper k) (ix4 b h i j)) (fun j => upper v (ix4 b j h d)) _ _
    (fun j => by rw [scores_at]; simp only [lower_at]; rfl) (fun j => by rw [scores_at]; simp only [upper_at]; rfl)
    (fun j => lower_at b h d j v) (fun j => upper_at b h d j v)
    ((largest_at b i h _ _).trans (by rw [start_at])) (largest_at b i h _ _)

/-- The whole result, from the arrays. -/
def result (x : FVec Ideal S2x2048x512 .f32) (w : FVec Ideal S512x512 .f32) (k v : FVec Ideal S2x2048x8x64 .f32) (wo : FVec Ideal S512x512 .f32)
    (b : Fin 2) (i : Fin 2048) (n : Fin 512) : EReal :=
  ∑ a : Fin 512, Soft.avg (score (queries x w) k b i ⟨a.val / 64, by omega⟩) (fun j : Fin 2048 => v (ix4 b j ⟨a.val / 64, by omega⟩ ⟨a.val % 64, by omega⟩)) * wo (ix2 a n)

theorem output_heads_at (x w k v wo) (b : Fin 2) (i : Fin 2048) (n : Fin 512) : output (F := Ideal) (heads (queries x w) k v) wo (ix3 b i n) = result x w k v wo b i n := by
  rw [output_at]
  exact Finset.sum_congr rfl fun a _ => by rw [heads_at]

theorem reference_at (m : (ℓ : Loc nD τ sig) → Buf (Elt Ideal) ℓ) (c : Dev nD) :
    Value.res_main_v55 m c (ix3 b i n) = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) b i n := by
  rw [res_eq]
  exact output_heads_at _ _ _ _ _ b i n

end Cert.ReferenceIdeal.Math

end
-- ==== Proof.Math.Kernel.lean ====
/-
What a device of the kernel computes, at an index: eight heads of attention over
the keys and values of the whole ring, each head an average weighted by the
exponentials of its scores.
-/
module

public import proofs.«01_k».proof.Proof.Ideal.Value
public import proofs.«01_k».proof.Proof.Math.Reference
public import Idealize.ShloMosaic.Lib.Pointwise
public import Idealize.ShloMosaic.Lib.Layout
public import Idealize.ShloMosaic.Lib.Pipeline.ValueKit.Geometry

@[expose] public section

set_option maxRecDepth 65536

noncomputable section

namespace Cert.KernelIdeal.Ring

open Cert.KernelIdeal Cert.KernelIdeal.Gen Idealize.ShloMosaic Idealize.ShloMosaic.TcCoe
open Cert (Soft.avg)
open Cert.ReferenceIdeal.Math (bot_word scale_word)

/-! ## The arithmetic of one device -/

theorem head_at (qs : FVec Ideal S128x512 .bf16) (h : Fin 8) (k v : Vec Ideal S2048x64 .bf16) (r : Fin 128) (d : Fin 64) :
    head qs h k v (ix2 r d)
      = Soft.avg (fun j : Fin 2048 => ∑ e : Fin 64, qs (ix2 r ⟨64 * h.val + e.val, by omega⟩) * k (ix2 j e)) fun j => v (ix2 j d) := by
  pointwise [head, k0_pay8]
  simp only [bot_word]
  rfl

theorem pay5_at (x : Vec Ideal S1x128x512 .f32) (w : Vec Ideal S512x512 .f32) (r : Fin 128) (n : Fin 512) :
    k0_pay5 x w (ix2 r n) = (∑ k : Fin 512, x (ix3 0 r k) * w (ix2 k n)) * Ideal.ofBits .f32 0x3E000000#32 := by
  pointwise [k0_pay5]

theorem pay6_at (x : Vec Ideal S1x128x512 .f32) (w : Vec Ideal S512x512 .f32) (r : Fin 128) (n : Fin 512) :
    k0_pay6 x w (ix2 r n) = (∑ k : Fin 512, x (ix3 0 r k) * w (ix2 k n)) * Ideal.ofBits .f32 0x3E000000#32 := by
  pointwise [k0_pay6]

/-- A position among eight heads of 64 columns, by the head and the column within it. -/
theorem chain_at {α : Type} (g : Fin 8 → Fin 64 → α) (x : Fin 512) :
    (if h : x.val < 64 then g 0 ⟨x.val, h⟩
      else if h : x.val - 64 < 64 then g 1 ⟨x.val - 64, h⟩
      else if h : x.val - 64 - 64 < 64 then g 2 ⟨x.val - 64 - 64, h⟩
      else if h : x.val - 64 - 64 - 64 < 64 then g 3 ⟨x.val - 64 - 64 - 64, h⟩
      else if h : x.val - 64 - 64 - 64 - 64 < 64 then g 4 ⟨x.val - 64 - 64 - 64 - 64, h⟩
      else if h : x.val - 64 - 64 - 64 - 64 - 64 < 64 then g 5 ⟨x.val - 64 - 64 - 64 - 64 - 64, h⟩
      else if h : x.val - 64 - 64 - 64 - 64 - 64 - 64 < 64 then g 6 ⟨x.val - 64 - 64 - 64 - 64 - 64 - 64, h⟩
      else g 7 ⟨x.val - 64 - 64 - 64 - 64 - 64 - 64 - 64, by omega⟩)
    = g ⟨x.val / 64, by omega⟩ ⟨x.val % 64, by omega⟩ := by
  have key (t : Fin 8) (u : Fin 64) (hx : x.val = 64 * t.val + u.val) : g t u = g ⟨x.val / 64, by omega⟩ ⟨x.val % 64, by omega⟩ := by
    congr 1
    · congr 1; apply Fin.ext; show t.val = x.val / 64; omega
    · apply Fin.ext; show u.val = x.val % 64; omega
  split_ifs <;> exact key _ _ (by simp <;> omega)

theorem attn_at (qs : FVec Ideal S128x512 .bf16) (k v : Fin 8 → Vec Ideal S2048x64 .bf16) (wo : Vec Ideal S512x512 .f32) (r : Fin 128) (n : Fin 512) :
    attn qs k v wo (ix3 0 r n)
      = ∑ a : Fin 512, head qs ⟨a.val / 64, by omega⟩ (k ⟨a.val / 64, by omega⟩) (v ⟨a.val / 64, by omega⟩) (ix2 r ⟨a.val % 64, by omega⟩) * wo (ix2 a n) := by
  pointwise [attn]
  refine Finset.sum_congr rfl fun a _ => congrArg (· * _) ?_
  exact chain_at (fun t u => head qs t (k t) (v t) (ix2 r u)) a

/-! ## The contents a device loads -/

section Loads

variable (m : (ℓ : Loc nD τ sig) → Buf (Elt Ideal) ℓ) (c : Dev nD)

theorem xstg_at (b : Fin 2) (r : Fin 128) (k : Fin 512) : xstg m c (ix3 b r k) = m ((c : Thread nD τ).loc main_arg0) (ix3 b r k) := by
  have h : ∀ a, win0_0.index (0 : Fin 1) a = 0 := by decide
  blk_ext [xstg, h]

theorem wqstg_at (k n : Fin 512) : wqstg m c (ix2 k n) = m ((c : Thread nD τ).loc main_arg1) (ix2 k n) := by
  have h : ∀ a, win0_1.index (0 : Fin 1) a = 0 := by decide
  blk_ext [wqstg, h]

theorem wostg_at (k n : Fin 512) : wostg m c (ix2 k n) = m ((c : Thread nD τ).loc main_arg4) (ix2 k n) := by
  have h : ∀ a, win0_2.index (0 : Fin 1) a = 0 := by decide
  blk_ext [wostg, h]

theorem kstg_at (b : Fin 2) (p : Fin 128) (h : Fin 8) (e : Fin 64) : kstg m c (ix4 b p h e) = m ((c : Thread nD τ).loc main_arg2) (ix4 b p h e) := by
  have hi : ∀ a, win0_3.index (0 : Fin 1) a = 0 := by decide
  blk_ext [kstg, hi]

theorem vstg_at (b : Fin 2) (p : Fin 128) (h : Fin 8) (e : Fin 64) : vstg m c (ix4 b p h e) = m ((c : Thread nD τ).loc main_arg3) (ix4 b p h e) := by
  have hi : ∀ a, win0_4.index (0 : Fin 1) a = 0 := by decide
  blk_ext [vstg, hi]

/-- Where an index of a contiguous part of an array lies in the array. -/
theorem unit_at {s : Shape} {off size : Fin s.rank → ℕ} (inb : ∀ a, off a + size a ≤ s.size a) (x : (Rect.unit off size inb).toLoadRect.shape.Idx) (a : Fin s.rank) :
    ((Rect.unit off size inb).toLoadRect.idx x a).val = off a + (x a).val := by
  show off a + 1 * (x a).val = _
  omega

/-- A device's query rows of a batch entry. -/
theorem xLd_at (b : Fin 2) (inb : ∀ a, (![b.val, 0, 0] : Fin 3 → ℕ) a + S1x128x512.size a ≤ S2x128x512.size a) (r : Fin 128) (k : Fin 512) :
    xLd m ![b.val, 0, 0] inb c (ix3 0 r k) = m ((c : Thread nD τ).loc main_arg0) (ix3 b r k) := by
  refine Eq.trans ?_ (xstg_at m c b r k)
  refine congrArg (xstg m c) (funext fun a => Fin.ext ?_)
  refine (unit_at inb _ a).trans ?_
  fin_cases a <;> simp [ix3]

theorem wqLd_at (k n : Fin 512) : wqLd m c (ix2 k n) = m ((c : Thread nD τ).loc main_arg1) (ix2 k n) := by
  refine Eq.trans ?_ (wqstg_at m c k n)
  refine congrArg (wqstg m c) (funext fun a => Fin.ext ?_)
  refine (unit_at inb_S512x512_S512x512_0_0 _ a).trans ?_
  fin_cases a <;> simp [ix2]

theorem woLd_at (k n : Fin 512) : woLd m c (ix2 k n) = m ((c : Thread nD τ).loc main_arg4) (ix2 k n) := by
  refine Eq.trans ?_ (wostg_at m c k n)
  refine congrArg (wostg m c) (funext fun a => Fin.ext ?_)
  refine (unit_at inb_S512x512_S512x512_0_0 _ a).trans ?_
  fin_cases a <;> simp [ix2]

theorem kLd_at (b : Fin 2) (inb : ∀ a, (![b.val, 0, 0, 0] : Fin 4 → ℕ) a + S1x128x8x64.size a ≤ S2x128x8x64.size a) (p : Fin 128) (h : Fin 8) (e : Fin 64) :
    kM.view.readAt (Elt Ideal) (Rect.unit (s := S2x128x8x64) ![b.val, 0, 0, 0] S1x128x8x64.size inb).toLoadRect (kstg m c) (ix4 0 p h e)
      = m ((c : Thread nD τ).loc main_arg2) (ix4 b p h e) := by
  refine Eq.trans ?_ (kstg_at m c b p h e)
  refine congrArg (kstg m c) (funext fun a => Fin.ext ?_)
  refine (unit_at inb _ a).trans ?_
  fin_cases a <;> simp [ix4]

theorem vLd_at (b : Fin 2) (inb : ∀ a, (![b.val, 0, 0, 0] : Fin 4 → ℕ) a + S1x128x8x64.size a ≤ S2x128x8x64.size a) (p : Fin 128) (h : Fin 8) (e : Fin 64) :
    vM.view.readAt (Elt Ideal) (Rect.unit (s := S2x128x8x64) ![b.val, 0, 0, 0] S1x128x8x64.size inb).toLoadRect (vstg m c) (ix4 0 p h e)
      = m ((c : Thread nD τ).loc main_arg3) (ix4 b p h e) := by
  refine Eq.trans ?_ (vstg_at m c b p h e)
  refine congrArg (vstg m c) (funext fun a => Fin.ext ?_)
  refine (unit_at inb _ a).trans ?_
  fin_cases a <;> simp [ix4]

/-- A quarter of a slot lays the eight heads side by side. -/
theorem pay1_at (x : Vec Ideal S1x128x8x64 .f32) (p : Fin 128) (n : Fin 512) :
    k0_pay1 x (ix2 p n) = x (ix4 0 p ⟨n.val / 64, by omega⟩ ⟨n.val % 64, by omega⟩) := by
  pointwise [k0_pay1]

theorem slot_at {f : Vec Ideal S1x128x8x64 .f32 → FVec Ideal S128x512 .bf16}
    (hf : ∀ x p n, f x (ix2 p n) = x (ix4 0 p ⟨n.val / 64, by omega⟩ ⟨n.val % 64, by omega⟩)) (x : Vec Ideal S1x128x8x64 .f32) (p : Fin 128) (h : Fin 8) (e : Fin 64) :
    f x (ix2 p ⟨64 * h.val + e.val, by omega⟩) = x (ix4 0 p h e) := by
  have e1 : (⟨(64 * h.val + e.val) / 64, by omega⟩ : Fin 8) = h := Fin.ext (by show (64 * h.val + e.val) / 64 = h.val; omega)
  have e2 : (⟨(64 * h.val + e.val) % 64, by omega⟩ : Fin 64) = e := Fin.ext (by show (64 * h.val + e.val) % 64 = e.val; omega)
  rw [hf, e1, e2]

/-- The columns of a head, read out of the buffer. -/
theorem col_at (q : Fin 4) (h : Fin 8) (j : Fin 2048) (e : Fin 64) :
    col m q h (ix2 j e) = ownBlk m (rg ⟨j.val / 128, by omega⟩) q (ix2 ⟨j.val % 128, by omega⟩ ⟨64 * h.val + e.val, by omega⟩) := by
  have hr : col m q h (ix2 j e) = kvAll m (ix2 j ⟨512 * q.val + 64 * h.val + e.val, by omega⟩) := by
    refine congrArg (kvAll m) (funext fun a => Fin.ext ?_)
    refine (unit_at (col_inb q h) _ a).trans ?_
    fin_cases a <;> simp [ix2]
  rw [hr]
  have e1 : Fin.ofNat 16 (j.val / 128) = ⟨j.val / 128, by omega⟩ := Fin.ext (by show j.val / 128 % 16 = j.val / 128; omega)
  have e2 : Fin.ofNat 4 ((512 * q.val + 64 * h.val + e.val) / 512) = q := Fin.ext (by show (512 * q.val + 64 * h.val + e.val) / 512 % 4 = q.val; omega)
  have e3 : Fin.ofNat 128 (j.val % 128) = ⟨j.val % 128, by omega⟩ := Fin.ext (by show j.val % 128 % 128 = j.val % 128; omega)
  have e4 : Fin.ofNat 512 ((512 * q.val + 64 * h.val + e.val) % 512) = ⟨64 * h.val + e.val, by omega⟩ :=
    Fin.ext (by show (512 * q.val + 64 * h.val + e.val) % 512 % 512 = 64 * h.val + e.val; omega)
  show ownBlk m (rg (Fin.ofNat 16 (j.val / 128))) (Fin.ofNat 4 ((512 * q.val + 64 * h.val + e.val) / 512))
    (ix2 (Fin.ofNat 128 (j.val % 128)) (Fin.ofNat 512 ((512 * q.val + 64 * h.val + e.val) % 512))) = _
  rw [e1, e2, e3, e4]

/-- A device's keys and values of a batch entry, as it lays them in its slot. -/
theorem own0_at (p : Fin 128) (h : Fin 8) (e : Fin 64) :
    ownBlk m c 0 (ix2 p ⟨64 * h.val + e.val, by omega⟩) = m ((c : Thread nD τ).loc main_arg2) (ix4 0 p h e) :=
  (slot_at pay1_at _ p h e).trans (kLd_at m c 0 inb_S2x128x8x64_S1x128x8x64_0_0_0_0 p h e)

theorem own1_at (p : Fin 128) (h : Fin 8) (e : Fin 64) :
    ownBlk m c 1 (ix2 p ⟨64 * h.val + e.val, by omega⟩) = m ((c : Thread nD τ).loc main_arg3) (ix4 0 p h e) :=
  (slot_at pay1_at _ p h e).trans (vLd_at m c 0 inb_S2x128x8x64_S1x128x8x64_0_0_0_0 p h e)

theorem own2_at (p : Fin 128) (h : Fin 8) (e : Fin 64) :
    ownBlk m c 2 (ix2 p ⟨64 * h.val + e.val, by omega⟩) = m ((c : Thread nD τ).loc main_arg2) (ix4 1 p h e) :=
  (slot_at pay1_at _ p h e).trans (kLd_at m c 1 inb_S2x128x8x64_S1x128x8x64_1_0_0_0 p h e)

theorem own3_at (p : Fin 128) (h : Fin 8) (e : Fin 64) :
    ownBlk m c 3 (ix2 p ⟨64 * h.val + e.val, by omega⟩) = m ((c : Thread nD τ).loc main_arg3) (ix4 1 p h e) :=
  (slot_at pay1_at _ p h e).trans (vLd_at m c 1 inb_S2x128x8x64_S1x128x8x64_1_0_0_0 p h e)

end Loads

/-! ## The whole arrays -/

/-- Where the row at a place of the buffer is in the whole sequence: the buffer
    holds the devices' blocks in the order of the ring. -/
def ringRow (j : Fin 2048) : Fin 2048 := ⟨128 * (rg ⟨j.val / 128, by omega⟩).val + j.val % 128, by
  have := (rg ⟨j.val / 128, by omega⟩).isLt; simp only [nD] at this; omega⟩

theorem ringRow_injective : Function.Injective ringRow := fun i j h => by
  have h' : 128 * (rg ⟨i.val / 128, by omega⟩).val + i.val % 128 = 128 * (rg ⟨j.val / 128, by omega⟩).val + j.val % 128 := congrArg Fin.val h
  have hr : rg ⟨i.val / 128, by omega⟩ = rg ⟨j.val / 128, by omega⟩ := Fin.ext (by omega)
  have hd : i.val / 128 = j.val / 128 := by
    have := congrArg rp hr
    rw [rp_rg, rp_rg] at this
    exact congrArg Fin.val this
  apply Fin.ext
  omega

/-- The order of the ring, as a rearrangement of the sequence. -/
def ringOrder : Fin 2048 ≃ Fin 2048 := Equiv.ofBijective ringRow (Finite.injective_iff_bijective.mp ringRow_injective)

open Cert.ReferenceIdeal.Math in
/-- One batch entry: over the whole sequence in the ring's order, a device computes the
    reference's rows. -/
theorem attn_result (x : FVec Ideal Cert.ReferenceIdeal.S2x2048x512 .f32) (w : FVec Ideal Cert.ReferenceIdeal.S512x512 .f32)
    (K V : FVec Ideal Cert.ReferenceIdeal.S2x2048x8x64 .f32) (W : FVec Ideal Cert.ReferenceIdeal.S512x512 .f32)
    (b : Fin 2) (i : Fin 2048) (r : Fin 128) (n : Fin 512)
    (qs : FVec Ideal S128x512 .bf16) (k v : Fin 8 → Vec Ideal S2048x64 .bf16) (wo : Vec Ideal S512x512 .f32)
    (hq : ∀ a, qs (ix2 r a) = (∑ z : Fin 512, x (ix3 b i z) * w (ix2 z a)) * Ideal.ofBits .f32 0x3E000000#32)
    (hk : ∀ h j e, k h (ix2 j e) = K (ix4 b (ringRow j) h e)) (hv : ∀ h j e, v h (ix2 j e) = V (ix4 b (ringRow j) h e))
    (hw : ∀ a, wo (ix2 a n) = W (ix2 a n)) :
    attn qs k v wo (ix3 0 r n) = result x w K V W b i n := by
  rw [attn_at]
  refine Finset.sum_congr rfl fun a _ => ?_
  rw [hw, head_at]
  refine congrArg (· * _) ?_
  refine Eq.trans ?_ (Soft.avg_perm ringOrder _ _)
  refine congrArg₂ Soft.avg (funext fun j => ?_) (funext fun j => hv _ j _)
  rw [score, ← Soft.scaled_dot _ _ (by rw [scale_word]; norm_num) (by rw [scale_word]; exact EReal.coe_ne_top _)]
  refine Finset.sum_congr rfl fun e _ => ?_
  rw [hk, hq, queries_at]
  have hi (h : Fin 8) : (⟨64 * h.val + e.val, by omega⟩ : Fin 512) = ⟨h.val * 64 + e.val, by omega⟩ := Fin.ext (by show 64 * h.val + e.val = h.val * 64 + e.val; omega)
  rw [hi]
  rfl

end Cert.KernelIdeal.Ring

end
-- ==== Proof.Math.Whole.lean ====
/-
What a device of the kernel leaves is its rows of the reference's result.
-/
module

public import proofs.«01_k».proof.Proof.Math.Kernel

@[expose] public section

set_option maxRecDepth 65536

noncomputable section

namespace Cert.KernelIdeal.Ring

open Cert.KernelIdeal Cert.KernelIdeal.Gen Idealize.ShloMosaic Idealize.ShloMosaic.TcCoe
open Cert.ReferenceIdeal.Math (result reference_at)

/-- Where row `r` of device `c`'s block is in the whole sequence. -/
def rowOf (c : Dev nD) (r : Fin 128) : Fin 2048 := ⟨128 * c.val + r.val, by have := c.isLt; simp only [nD] at this; omega⟩

theorem rowOf_ring (j : Fin 2048) : rowOf (rg ⟨j.val / 128, by omega⟩) ⟨j.val % 128, by omega⟩ = ringRow j := rfl

theorem block3_at {α : Type} (c : Dev nD) (x : (⟨3, ![2, 2048, 512]⟩ : Shape).Idx → α) (b : Fin 2) (r : Fin 128) (k : Fin 512) :
    Layout.block ⟨3, ![2, 128, 512]⟩ ⟨3, ![2, 2048, 512]⟩ 1 16 c x (by decide) (ix3 b r k) = x (ix3 b (rowOf c r) k) := by
  rw [Layout.block_apply]
  refine congrArg x (funext fun a => Fin.ext ?_)
  rw [Layout.Tiles.idx_val]
  fin_cases a
  · rfl
  · show c.val * 128 + r.val = 128 * c.val + r.val; omega
  · rfl

theorem block4_at {α : Type} (c : Dev nD) (x : (⟨4, ![2, 2048, 8, 64]⟩ : Shape).Idx → α) (b : Fin 2) (r : Fin 128) (h : Fin 8) (e : Fin 64) :
    Layout.block ⟨4, ![2, 128, 8, 64]⟩ ⟨4, ![2, 2048, 8, 64]⟩ 1 16 c x (by decide) (ix4 b r h e) = x (ix4 b (rowOf c r) h e) := by
  rw [Layout.block_apply]
  refine congrArg x (funext fun a => Fin.ext ?_)
  rw [Layout.Tiles.idx_val]
  fin_cases a
  · rfl
  · show c.val * 128 + r.val = 128 * c.val + r.val; omega
  · rfl
  · rfl

variable (m : (ℓ : Loc nD τ sig) → Buf (Elt Ideal) ℓ)
  (x : FVec Ideal Cert.ReferenceIdeal.S2x2048x512 .f32) (w : FVec Ideal Cert.ReferenceIdeal.S512x512 .f32)
  (K V : FVec Ideal Cert.ReferenceIdeal.S2x2048x8x64 .f32) (W : FVec Ideal Cert.ReferenceIdeal.S512x512 .f32)

/-- The devices hold the arrays: the queries' rows, the keys and the values by blocks,
    the two weights whole. -/
structure Holds : Prop where
  x : ∀ (c : Dev nD) b r k, m ((c : Thread nD τ).loc main_arg0) (ix3 b r k) = x (ix3 b (rowOf c r) k)
  w : ∀ (c : Dev nD) k n, m ((c : Thread nD τ).loc main_arg1) (ix2 k n) = w (ix2 k n)
  K : ∀ (c : Dev nD) b r h e, m ((c : Thread nD τ).loc main_arg2) (ix4 b r h e) = K (ix4 b (rowOf c r) h e)
  V : ∀ (c : Dev nD) b r h e, m ((c : Thread nD τ).loc main_arg3) (ix4 b r h e) = V (ix4 b (rowOf c r) h e)
  W : ∀ (c : Dev nD) k n, m ((c : Thread nD τ).loc main_arg4) (ix2 k n) = W (ix2 k n)

variable {m x w K V W}

theorem out0_result (H : Holds m x w K V W) (c : Dev nD) (r : Fin 128) (n : Fin 512) :
    out0 m c (ix3 0 r n) = result x w K V W 0 (rowOf c r) n := by
  refine attn_result x w K V W 0 (rowOf c r) r n _ _ _ _ (fun a => ?_) (fun h j e => ?_) (fun h j e => ?_) fun a => ?_
  · rw [pay5_at]
    refine congrArg (· * _) (Finset.sum_congr rfl fun z _ => ?_)
    rw [wqLd_at, H.w, ← H.x]
    exact congrArg (· * _) (xLd_at m c 0 inb_S2x128x512_S1x128x512_0_0_0 r z)
  · rw [col_at, own0_at, H.K, rowOf_ring]
  · rw [col_at, own1_at, H.V, rowOf_ring]
  · rw [woLd_at, H.W]

theorem out1_result (H : Holds m x w K V W) (c : Dev nD) (r : Fin 128) (n : Fin 512) :
    out1 m c (ix3 0 r n) = result x w K V W 1 (rowOf c r) n := by
  refine attn_result x w K V W 1 (rowOf c r) r n _ _ _ _ (fun a => ?_) (fun h j e => ?_) (fun h j e => ?_) fun a => ?_
  · rw [pay6_at]
    refine congrArg (· * _) (Finset.sum_congr rfl fun z _ => ?_)
    rw [wqLd_at, H.w, ← H.x]
    exact congrArg (· * _) (xLd_at m c 1 inb_S2x128x512_S1x128x512_1_0_0 r z)
  · rw [col_at, own2_at, H.K, rowOf_ring]
  · rw [col_at, own3_at, H.V, rowOf_ring]
  · rw [woLd_at, H.W]

/-- A device's result, at an index. -/
theorem outAt_result (H : Holds m x w K V W) (c : Dev nD) (b : Fin 2) (r : Fin 128) (n : Fin 512) :
    outAt m c (ix3 b r n) = result x w K V W b (rowOf c r) n := by
  fin_cases b
  · exact out0_result H c r n
  · exact out1_result H c r n

end Cert.KernelIdeal.Ring

end
-- ==== Proof.lean ====
/- The kernel's frames come from the run of the ring (Proof/Compiled, Proof/Ideal: one text at the two float instances),
   the reference's from its operations in order. The two results meet at an index (Proof/Math). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Final
public import proofs.«01_k».proof.Proof.Compiled.Final
public import proofs.«01_k».proof.Proof.Math.Whole
public import Idealize.ShloMosaic.Lib.Quiescent
public import Idealize.ShloMosaic.Adequacy
public import Idealize.ShloMosaic.Init

@[expose] public section

noncomputable section

namespace Cert.Proof

open Idealize.ShloMosaic Idealize.SL.Sem

theorem frame_p : Cert.quiescent_Kernel := fun m g _ =>
  (θ_run Cert.Kernel.defs _ _).mono (fun _ h => ⟨fun c => (h.1 c).2, h.2⟩) (Cert.Kernel.Ring.run_full (F := Bits) m g)

theorem frame_pi : Cert.quiescent_KernelIdeal := fun m g _ =>
  (θ_run Cert.KernelIdeal.defs _ _).mono (fun _ h => ⟨fun c => (h.1 c).2, h.2⟩) (Cert.KernelIdeal.Ring.run_full (F := Ideal) m g)

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The devices' results are the blocks of the reference's. -/
theorem algebraic : Cert.algebraic_KernelIdeal_ReferenceIdeal := by
  intro m g m' g' _ hagree
  refine ⟨Cert.ReferenceIdeal.Value.res_main_v55 m' 0, ?_, ?_⟩
  · refine (θ_run Cert.KernelIdeal.defs _ _).mono (fun _ h c => ⟨(h.1 c).1.trans ?_, (h.1 c).2⟩) (Cert.KernelIdeal.Ring.run_full (F := Ideal) m g)
    have H : Cert.KernelIdeal.Ring.Holds m
        (m' ((0 : Dev Cert.ReferenceIdeal.nD).tc.loc Cert.ReferenceIdeal.main_arg0)) (m' ((0 : Dev Cert.ReferenceIdeal.nD).tc.loc Cert.ReferenceIdeal.main_arg1))
        (m' ((0 : Dev Cert.ReferenceIdeal.nD).tc.loc Cert.ReferenceIdeal.main_arg2)) (m' ((0 : Dev Cert.ReferenceIdeal.nD).tc.loc Cert.ReferenceIdeal.main_arg3))
        (m' ((0 : Dev Cert.ReferenceIdeal.nD).tc.loc Cert.ReferenceIdeal.main_arg4)) :=
      { x := fun c b r k => (congrFun (hagree c).1 _).trans (Cert.KernelIdeal.Ring.block3_at c _ b r k)
        w := fun c _ _ => congrFun (hagree c).2.1 _
        K := fun c b r h e => (congrFun (hagree c).2.2.1 _).trans (Cert.KernelIdeal.Ring.block4_at c _ b r h e)
        V := fun c b r h e => (congrFun (hagree c).2.2.2.1 _).trans (Cert.KernelIdeal.Ring.block4_at c _ b r h e)
        W := fun c _ _ => congrFun (hagree c).2.2.2.2 _ }
    refine funext fun i => ?_
    rw [show i = ix3 (i 0) (i 1) (i 2) from (ix3_eta i).symm]
    refine (Cert.KernelIdeal.Ring.outAt_result H c (i 0) (i 1) (i 2)).trans ?_
    refine Eq.trans ?_ (Cert.KernelIdeal.Ring.block3_at c _ (i 0) (i 1) (i 2)).symm
    exact (Cert.ReferenceIdeal.Math.reference_at _ _ _ m' 0).symm
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_p, frame_pi, frame_ri, trivial, algebraic⟩

end Cert.Proof

end
